-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v894) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3x1024x1024 : Shape := ⟨4, ![4, 3, 1024, 1024]⟩
abbrev S4x11x11 : Shape := ⟨3, ![4, 11, 11]⟩
abbrev S5 : Shape := ⟨1, ![5]⟩
abbrev S_ : Shape := ⟨0, ![]⟩
abbrev S12x1024x1024 : Shape := ⟨3, ![12, 1024, 1024]⟩
abbrev S1x1024x1024 : Shape := ⟨3, ![1, 1024, 1024]⟩
abbrev S17x129x129 : Shape := ⟨3, ![17, 129, 129]⟩
abbrev S1024x1024 : Shape := ⟨2, ![1024, 1024]⟩
abbrev S1024x129 : Shape := ⟨2, ![1024, 129]⟩
abbrev S129x1024 : Shape := ⟨2, ![129, 1024]⟩
abbrev S17x128 : Shape := ⟨2, ![17, 128]⟩
abbrev S129x136 : Shape := ⟨2, ![129, 136]⟩
abbrev S128x1024 : Shape := ⟨2, ![128, 1024]⟩
abbrev S17x1024 : Shape := ⟨2, ![17, 1024]⟩
abbrev S136x1024 : Shape := ⟨2, ![136, 1024]⟩
abbrev S136x129 : Shape := ⟨2, ![136, 129]⟩
abbrev S129x129 : Shape := ⟨2, ![129, 129]⟩
abbrev S1x129x129 : Shape := ⟨3, ![1, 129, 129]⟩
abbrev S1 : Shape := ⟨1, ![1]⟩
abbrev S17x2x129 : Shape := ⟨3, ![17, 2, 129]⟩
abbrev S17x127x129 : Shape := ⟨3, ![17, 127, 129]⟩
abbrev S17x1x129 : Shape := ⟨3, ![17, 1, 129]⟩
abbrev S17x128x129 : Shape := ⟨3, ![17, 128, 129]⟩
abbrev S17x129x2 : Shape := ⟨3, ![17, 129, 2]⟩
abbrev S17x129x127 : Shape := ⟨3, ![17, 129, 127]⟩
abbrev S17x129x1 : Shape := ⟨3, ![17, 129, 1]⟩
abbrev S17x129x128 : Shape := ⟨3, ![17, 129, 128]⟩
abbrev S2x129x129 : Shape := ⟨3, ![2, 129, 129]⟩
abbrev S15x129x129 : Shape := ⟨3, ![15, 129, 129]⟩
abbrev S16x129x129 : Shape := ⟨3, ![16, 129, 129]⟩
abbrev S128x17 : Shape := ⟨2, ![128, 17]⟩
abbrev S1x1024 : Shape := ⟨2, ![1, 1024]⟩
abbrev S1x128x1024 : Shape := ⟨3, ![1, 128, 1024]⟩
abbrev S1x17x129 : Shape := ⟨3, ![1, 17, 129]⟩
abbrev S17x129 : Shape := ⟨2, ![17, 129]⟩
abbrev S128x129 : Shape := ⟨2, ![128, 129]⟩
abbrev S2176x129 : Shape := ⟨2, ![2176, 129]⟩
abbrev S2176x128 : Shape := ⟨2, ![2176, 128]⟩
abbrev S2176x1024 : Shape := ⟨2, ![2176, 1024]⟩
abbrev S2176x1 : Shape := ⟨2, ![2176, 1]⟩

abbrev nBuf : Space → Nat
  | .hbm => 8
  | .vmem => 6
  | .smem => 2
  | _ => 0

abbrev bufTy : (tb : Table) → Fin (tcTables nBuf tb) → BufTy
  | .hbm, ⟨0, _⟩ => ⟨S4x3x1024x1024, .f32⟩
  | .hbm, ⟨1, _⟩ => ⟨S4x11x11, .f32⟩
  | .hbm, ⟨2, _⟩ => ⟨S5, .f32⟩
  | .hbm, ⟨3, _⟩ => ⟨S5, .f32⟩
  | .hbm, ⟨4, _⟩ => ⟨S_, .i32⟩
  | .hbm, ⟨5, _⟩ => ⟨S_, .i32⟩
  | .hbm, ⟨6, _⟩ => ⟨S12x1024x1024, .f32⟩
  | .hbm, ⟨7, _⟩ => ⟨S12x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S17x129x129, .f32⟩
  | .local _ .vmem, ⟨5, _⟩ => ⟨S17x129x129, .f32⟩
  | .local _ .smem, ⟨0, _⟩ => ⟨S5, .f32⟩
  | .local _ .smem, ⟨1, _⟩ => ⟨S5, .f32⟩
  | _, _ => ⟨S4x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x3x1024x1024 : Shape := ⟨4, ![4, 3, 1024, 1024]⟩
abbrev S4x11x11 : Shape := ⟨3, ![4, 11, 11]⟩
abbrev S5 : Shape := ⟨1, ![5]⟩
abbrev S_ : Shape := ⟨0, ![]⟩
abbrev S12x1024x1024 : Shape := ⟨3, ![12, 1024, 1024]⟩
abbrev S12 : Shape := ⟨1, ![12]⟩
abbrev S12x1x1 : Shape := ⟨3, ![12, 1, 1]⟩
abbrev S1024 : Shape := ⟨1, ![1024]⟩
abbrev S1x1024x1 : Shape := ⟨3, ![1, 1024, 1]⟩
abbrev S1x1x1024 : Shape := ⟨3, ![1, 1, 1024]⟩
abbrev S12x129x129x17 : Shape := ⟨4, ![12, 129, 129, 17]⟩
abbrev S12x1024x1024x1 : Shape := ⟨4, ![12, 1024, 1024, 1]⟩
abbrev S12x1024x1024x4 : Shape := ⟨4, ![12, 1024, 1024, 4]⟩
abbrev S12x133x129x17 : Shape := ⟨4, ![12, 133, 129, 17]⟩
abbrev S1 : Shape := ⟨1, ![1]⟩
abbrev S12x129x133x17 : Shape := ⟨4, ![12, 129, 133, 17]⟩
abbrev S12x129x129x21 : Shape := ⟨4, ![12, 129, 129, 21]⟩
abbrev S1x1024x1024 : Shape := ⟨3, ![1, 1024, 1024]⟩

abbrev nBuf : Space → Nat
  | .hbm => 1096
  | .vmem => 0
  | .smem => 0
  | _ => 0

abbrev hbmTy0_0 (i : Nat) : BufTy := match i % 128 with
  | 0 => ⟨S4x3x1024x1024, .f32⟩
  | 1 => ⟨S4x11x11, .f32⟩
  | 2 => ⟨S5, .f32⟩
  | 3 => ⟨S5, .f32⟩
  | 4 => ⟨S_, .i32⟩
  | 5 => ⟨S_, .i32⟩
  | 6 => ⟨S12x1024x1024, .f32⟩
  | 7 => ⟨S12, .i32⟩
  | 8 => ⟨S12x1x1, .i32⟩
  | 9 => ⟨S1024, .f32⟩
  | 10 => ⟨S1024, .f32⟩
  | 11 => ⟨S_, .f32⟩
  | 12 => ⟨S1024, .f32⟩
  | 13 => ⟨S1024, .f32⟩
  | 14 => ⟨S1024, .f32⟩
  | 15 => ⟨S1024, .i32⟩
  | 16 => ⟨S1x1024x1, .i32⟩
  | 17 => ⟨S_, .f32⟩
  | 18 => ⟨S1024, .f32⟩
  | 19 => ⟨S1024, .f32⟩
  | 20 => ⟨S1024, .f32⟩
  | 21 => ⟨S1024, .i32⟩
  | 22 => ⟨S1x1x1024, .i32⟩
  | 23 => ⟨S_, .f32⟩
  | 24 => ⟨S12x1024x1024, .f32⟩
  | 25 => ⟨S12x1024x1024, .f32⟩
  | 26 => ⟨S12x1024x1024, .f32⟩
  | 27 => ⟨S_, .i32⟩
  | 28 => ⟨S_, .i32⟩
  | 29 => ⟨S_, .f32⟩
  | 30 => ⟨S12x1024x1024, .f32⟩
  | 31 => ⟨S12x1024x1024, .f32⟩
  | 32 => ⟨S_, .f32⟩
  | 33 => ⟨S12x1024x1024, .f32⟩
  | 34 => ⟨S12x1024x1024, .f32⟩
  | 35 => ⟨S12x1024x1024, .i32⟩
  | 36 => ⟨S_, .f32⟩
  | 37 => ⟨S12x129x129x17, .f32⟩
  | 38 => ⟨S_, .i32⟩
  | 39 => ⟨S12x1x1, .i32⟩
  | 40 => ⟨S12x1x1, .i1⟩
  | 41 => ⟨S_, .i32⟩
  | 42 => ⟨S12x1x1, .i32⟩
  | 43 => ⟨S12x1x1, .i32⟩
  | 44 => ⟨S12x1x1, .i32⟩
  | 45 => ⟨S_, .i32⟩
  | 46 => ⟨S1x1024x1, .i32⟩
  | 47 => ⟨S1x1024x1, .i1⟩
  | 48 => ⟨S_, .i32⟩
  | 49 => ⟨S1x1024x1, .i32⟩
  | 50 => ⟨S1x1024x1, .i32⟩
  | 51 => ⟨S1x1024x1, .i32⟩
  | 52 => ⟨S_, .i32⟩
  | 53 => ⟨S1x1x1024, .i32⟩
  | 54 => ⟨S1x1x1024, .i1⟩
  | 55 => ⟨S_, .i32⟩
  | 56 => ⟨S1x1x1024, .i32⟩
  | 57 => ⟨S1x1x1024, .i32⟩
  | 58 => ⟨S1x1x1024, .i32⟩
  | 59 => ⟨S_, .i32⟩
  | 60 => ⟨S12x1024x1024, .i32⟩
  | 61 => ⟨S12x1024x1024, .i1⟩
  | 62 => ⟨S_, .i32⟩
  | 63 => ⟨S12x1024x1024, .i32⟩
  | 64 => ⟨S12x1024x1024, .i32⟩
  | 65 => ⟨S12x1024x1024, .i32⟩
  | 66 => ⟨S12x1024x1024, .i32⟩
  | 67 => ⟨S12x1024x1024, .i32⟩
  | 68 => ⟨S12x1024x1024, .i32⟩
  | 69 => ⟨S12x1024x1024x1, .i32⟩
  | 70 => ⟨S12x1024x1024x1, .i32⟩
  | 71 => ⟨S12x1024x1024x1, .i32⟩
  | 72 => ⟨S12x1024x1024x1, .i32⟩
  | 73 => ⟨S12x1024x1024x4, .i32⟩
  | 74 => ⟨S12x129x129x17, .f32⟩
  | 75 => ⟨S_, .f32⟩
  | 76 => ⟨S12x129x129x17, .f32⟩
  | 77 => ⟨S_, .f32⟩
  | 78 => ⟨S12x1024x1024, .f32⟩
  | 79 => ⟨S_, .i32⟩
  | 80 => ⟨S12x1x1, .i32⟩
  | 81 => ⟨S12x1x1, .i1⟩
  | 82 => ⟨S_, .i32⟩
  | 83 => ⟨S12x1x1, .i32⟩
  | 84 => ⟨S12x1x1, .i32⟩
  | 85 => ⟨S12x1x1, .i32⟩
  | 86 => ⟨S_, .i32⟩
  | 87 => ⟨S1x1024x1, .i32⟩
  | 88 => ⟨S1x1024x1, .i1⟩
  | 89 => ⟨S_, .i32⟩
  | 90 => ⟨S1x1024x1, .i32⟩
  | 91 => ⟨S1x1024x1, .i32⟩
  | 92 => ⟨S1x1024x1, .i32⟩
  | 93 => ⟨S_, .i32⟩
  | 94 => ⟨S1x1x1024, .i32⟩
  | 95 => ⟨S1x1x1024, .i1⟩
  | 96 => ⟨S_, .i32⟩
  | 97 => ⟨S1x1x1024, .i32⟩
  | 98 => ⟨S1x1x1024, .i32⟩
  | 99 => ⟨S1x1x1024, .i32⟩
  | 100 => ⟨S_, .i32⟩
  | 101 => ⟨S12x1024x1024, .i32⟩
  | 102 => ⟨S12x1024x1024, .i1⟩
  | 103 => ⟨S_, .i32⟩
  | 104 => ⟨S12x1024x1024, .i32⟩
  | 105 => ⟨S12x1024x1024, .i32⟩
  | 106 => ⟨S12x1024x1024, .i32⟩
  | 107 => ⟨S12x1024x1024, .i32⟩
  | 108 => ⟨S12x1024x1024, .i32⟩
  | 109 => ⟨S12x1024x1024, .i32⟩
  | 110 => ⟨S12x1024x1024x1, .i32⟩
  | 111 => ⟨S12x1024x1024x1, .i32⟩
  | 112 => ⟨S12x1024x1024x1, .i32⟩
  | 113 => ⟨S12x1024x1024x1, .i32⟩
  | 114 => ⟨S12x1024x1024x4, .i32⟩
  | 115 => ⟨S12x129x129x17, .f32⟩
  | 116 => ⟨S_, .i32⟩
  | 117 => ⟨S_, .f32⟩
  | 118 => ⟨S12x133x129x17, .f32⟩
  | 119 => ⟨S1, .f32⟩
  | 120 => ⟨S_, .f32⟩
  | 121 => ⟨S12x129x129x17, .f32⟩
  | 122 => ⟨S12x129x129x17, .f32⟩
  | 123 => ⟨S12x129x129x17, .f32⟩
  | 124 => ⟨S1, .f32⟩
  | 125 => ⟨S_, .f32⟩
  | 126 => ⟨S12x129x129x17, .f32⟩
  | 127 => ⟨S12x129x129x17, .f32⟩
  | _ => ⟨S4x3x1024x1024, .f32⟩

abbrev hbmTy0_1 (i : Nat) : BufTy := match i % 128 with
  | 0 => ⟨S12x129x129x17, .f32⟩
  | 1 => ⟨S12x129x129x17, .f32⟩
  | 2 => ⟨S1, .f32⟩
  | 3 => ⟨S_, .f32⟩
  | 4 => ⟨S12x129x129x17, .f32⟩
  | 5 => ⟨S12x129x129x17, .f32⟩
  | 6 => ⟨S12x129x129x17, .f32⟩
  | 7 => ⟨S12x129x129x17, .f32⟩
  | 8 => ⟨S1, .f32⟩
  | 9 => ⟨S_, .f32⟩
  | 10 => ⟨S12x129x129x17, .f32⟩
  | 11 => ⟨S12x129x129x17, .f32⟩
  | 12 => ⟨S12x129x129x17, .f32⟩
  | 13 => ⟨S12x129x129x17, .f32⟩
  | 14 => ⟨S1, .f32⟩
  | 15 => ⟨S_, .f32⟩
  | 16 => ⟨S12x129x129x17, .f32⟩
  | 17 => ⟨S12x129x129x17, .f32⟩
  | 18 => ⟨S12x129x129x17, .f32⟩
  | 19 => ⟨S12x129x129x17, .f32⟩
  | 20 => ⟨S_, .i32⟩
  | 21 => ⟨S_, .f32⟩
  | 22 => ⟨S12x133x129x17, .f32⟩
  | 23 => ⟨S1, .f32⟩
  | 24 => ⟨S_, .f32⟩
  | 25 => ⟨S12x129x129x17, .f32⟩
  | 26 => ⟨S12x129x129x17, .f32⟩
  | 27 => ⟨S12x129x129x17, .f32⟩
  | 28 => ⟨S1, .f32⟩
  | 29 => ⟨S_, .f32⟩
  | 30 => ⟨S12x129x129x17, .f32⟩
  | 31 => ⟨S12x129x129x17, .f32⟩
  | 32 => ⟨S12x129x129x17, .f32⟩
  | 33 => ⟨S12x129x129x17, .f32⟩
  | 34 => ⟨S1, .f32⟩
  | 35 => ⟨S_, .f32⟩
  | 36 => ⟨S12x129x129x17, .f32⟩
  | 37 => ⟨S12x129x129x17, .f32⟩
  | 38 => ⟨S12x129x129x17, .f32⟩
  | 39 => ⟨S12x129x129x17, .f32⟩
  | 40 => ⟨S1, .f32⟩
  | 41 => ⟨S_, .f32⟩
  | 42 => ⟨S12x129x129x17, .f32⟩
  | 43 => ⟨S12x129x129x17, .f32⟩
  | 44 => ⟨S12x129x129x17, .f32⟩
  | 45 => ⟨S12x129x129x17, .f32⟩
  | 46 => ⟨S1, .f32⟩
  | 47 => ⟨S_, .f32⟩
  | 48 => ⟨S12x129x129x17, .f32⟩
  | 49 => ⟨S12x129x129x17, .f32⟩
  | 50 => ⟨S12x129x129x17, .f32⟩
  | 51 => ⟨S12x129x129x17, .f32⟩
  | 52 => ⟨S_, .i32⟩
  | 53 => ⟨S_, .f32⟩
  | 54 => ⟨S12x129x133x17, .f32⟩
  | 55 => ⟨S1, .f32⟩
  | 56 => ⟨S_, .f32⟩
  | 57 => ⟨S12x129x129x17, .f32⟩
  | 58 => ⟨S12x129x129x17, .f32⟩
  | 59 => ⟨S12x129x129x17, .f32⟩
  | 60 => ⟨S1, .f32⟩
  | 61 => ⟨S_, .f32⟩
  | 62 => ⟨S12x129x129x17, .f32⟩
  | 63 => ⟨S12x129x129x17, .f32⟩
  | 64 => ⟨S12x129x129x17, .f32⟩
  | 65 => ⟨S12x129x129x17, .f32⟩
  | 66 => ⟨S1, .f32⟩
  | 67 => ⟨S_, .f32⟩
  | 68 => ⟨S12x129x129x17, .f32⟩
  | 69 => ⟨S12x129x129x17, .f32⟩
  | 70 => ⟨S12x129x129x17, .f32⟩
  | 71 => ⟨S12x129x129x17, .f32⟩
  | 72 => ⟨S1, .f32⟩
  | 73 => ⟨S_, .f32⟩
  | 74 => ⟨S12x129x129x17, .f32⟩
  | 75 => ⟨S12x129x129x17, .f32⟩
  | 76 => ⟨S12x129x129x17, .f32⟩
  | 77 => ⟨S12x129x129x17, .f32⟩
  | 78 => ⟨S1, .f32⟩
  | 79 => ⟨S_, .f32⟩
  | 80 => ⟨S12x129x129x17, .f32⟩
  | 81 => ⟨S12x129x129x17, .f32⟩
  | 82 => ⟨S12x129x129x17, .f32⟩
  | 83 => ⟨S12x129x129x17, .f32⟩
  | 84 => ⟨S_, .i32⟩
  | 85 => ⟨S_, .f32⟩
  | 86 => ⟨S12x129x133x17, .f32⟩
  | 87 => ⟨S1, .f32⟩
  | 88 => ⟨S_, .f32⟩
  | 89 => ⟨S12x129x129x17, .f32⟩
  | 90 => ⟨S12x129x129x17, .f32⟩
  | 91 => ⟨S12x129x129x17, .f32⟩
  | 92 => ⟨S1, .f32⟩
  | 93 => ⟨S_, .f32⟩
  | 94 => ⟨S12x129x129x17, .f32⟩
  | 95 => ⟨S12x129x129x17, .f32⟩
  | 96 => ⟨S12x129x129x17, .f32⟩
  | 97 => ⟨S12x129x129x17, .f32⟩
  | 98 => ⟨S1, .f32⟩
  | 99 => ⟨S_, .f32⟩
  | 100 => ⟨S12x129x129x17, .f32⟩
  | 101 => ⟨S12x129x129x17, .f32⟩
  | 102 => ⟨S12x129x129x17, .f32⟩
  | 103 => ⟨S12x129x129x17, .f32⟩
  | 104 => ⟨S1, .f32⟩
  | 105 => ⟨S_, .f32⟩
  | 106 => ⟨S12x129x129x17, .f32⟩
  | 107 => ⟨S12x129x129x17, .f32⟩
  | 108 => ⟨S12x129x129x17, .f32⟩
  | 109 => ⟨S12x129x129x17, .f32⟩
  | 110 => ⟨S1, .f32⟩
  | 111 => ⟨S_, .f32⟩
  | 112 => ⟨S12x129x129x17, .f32⟩
  | 113 => ⟨S12x129x129x17, .f32⟩
  | 114 => ⟨S12x129x129x17, .f32⟩
  | 115 => ⟨S12x129x129x17, .f32⟩
  | 116 => ⟨S_, .i32⟩
  | 117 => ⟨S_, .f32⟩
  | 118 => ⟨S12x129x129x21, .f32⟩
  | 119 => ⟨S1, .f32⟩
  | 120 => ⟨S_, .f32⟩
  | 121 => ⟨S12x129x129x17, .f32⟩
  | 122 => ⟨S12x129x129x17, .f32⟩
  | 123 => ⟨S12x129x129x17, .f32⟩
  | 124 => ⟨S1, .f32⟩
  | 125 => ⟨S_, .f32⟩
  | 126 => ⟨S12x129x129x17, .f32⟩
  | 127 => ⟨S12x129x129x17, .f32⟩
  | _ => ⟨S4x3x1024x1024, .f32⟩

abbrev hbmTy0_2 (i : Nat) : BufTy := match i % 128 with
  | 0 => ⟨S12x129x129x17, .f32⟩
  | 1 => ⟨S12x129x129x17, .f32⟩
  | 2 => ⟨S1, .f32⟩
  | 3 => ⟨S_, .f32⟩
  | 4 => ⟨S12x129x129x17, .f32⟩
  | 5 => ⟨S12x129x129x17, .f32⟩
  | 6 => ⟨S12x129x129x17, .f32⟩
  | 7 => ⟨S12x129x129x17, .f32⟩
  | 8 => ⟨S1, .f32⟩
  | 9 => ⟨S_, .f32⟩
  | 10 => ⟨S12x129x129x17, .f32⟩
  | 11 => ⟨S12x129x129x17, .f32⟩
  | 12 => ⟨S12x129x129x17, .f32⟩
  | 13 => ⟨S12x129x129x17, .f32⟩
  | 14 => ⟨S1, .f32⟩
  | 15 => ⟨S_, .f32⟩
  | 16 => ⟨S12x129x129x17, .f32⟩
  | 17 => ⟨S12x129x129x17, .f32⟩
  | 18 => ⟨S12x129x129x17, .f32⟩
  | 19 => ⟨S12x129x129x17, .f32⟩
  | 20 => ⟨S_, .i32⟩
  | 21 => ⟨S_, .f32⟩
  | 22 => ⟨S12x129x129x21, .f32⟩
  | 23 => ⟨S1, .f32⟩
  | 24 => ⟨S_, .f32⟩
  | 25 => ⟨S12x129x129x17, .f32⟩
  | 26 => ⟨S12x129x129x17, .f32⟩
  | 27 => ⟨S12x129x129x17, .f32⟩
  | 28 => ⟨S1, .f32⟩
  | 29 => ⟨S_, .f32⟩
  | 30 => ⟨S12x129x129x17, .f32⟩
  | 31 => ⟨S12x129x129x17, .f32⟩
  | 32 => ⟨S12x129x129x17, .f32⟩
  | 33 => ⟨S12x129x129x17, .f32⟩
  | 34 => ⟨S1, .f32⟩
  | 35 => ⟨S_, .f32⟩
  | 36 => ⟨S12x129x129x17, .f32⟩
  | 37 => ⟨S12x129x129x17, .f32⟩
  | 38 => ⟨S12x129x129x17, .f32⟩
  | 39 => ⟨S12x129x129x17, .f32⟩
  | 40 => ⟨S1, .f32⟩
  | 41 => ⟨S_, .f32⟩
  | 42 => ⟨S12x129x129x17, .f32⟩
  | 43 => ⟨S12x129x129x17, .f32⟩
  | 44 => ⟨S12x129x129x17, .f32⟩
  | 45 => ⟨S12x129x129x17, .f32⟩
  | 46 => ⟨S1, .f32⟩
  | 47 => ⟨S_, .f32⟩
  | 48 => ⟨S12x129x129x17, .f32⟩
  | 49 => ⟨S12x129x129x17, .f32⟩
  | 50 => ⟨S12x129x129x17, .f32⟩
  | 51 => ⟨S12x129x129x17, .f32⟩
  | 52 => ⟨S_, .f32⟩
  | 53 => ⟨S1024, .f32⟩
  | 54 => ⟨S1024, .f32⟩
  | 55 => ⟨S_, .f32⟩
  | 56 => ⟨S1024, .f32⟩
  | 57 => ⟨S1024, .f32⟩
  | 58 => ⟨S_, .f32⟩
  | 59 => ⟨S12x1024x1024, .f32⟩
  | 60 => ⟨S12x1024x1024, .f32⟩
  | 61 => ⟨S_, .f32⟩
  | 62 => ⟨S_, .f32⟩
  | 63 => ⟨S_, .f32⟩
  | 64 => ⟨S12x1024x1024, .f32⟩
  | 65 => ⟨S12x1024x1024, .f32⟩
  | 66 => ⟨S_, .f32⟩
  | 67 => ⟨S12x1024x1024, .f32⟩
  | 68 => ⟨S12x1024x1024, .f32⟩
  | 69 => ⟨S1024, .f32⟩
  | 70 => ⟨S1024, .i32⟩
  | 71 => ⟨S1024, .f32⟩
  | 72 => ⟨S1024, .i32⟩
  | 73 => ⟨S12x1024x1024, .f32⟩
  | 74 => ⟨S12x1024x1024, .i32⟩
  | 75 => ⟨S_, .i32⟩
  | 76 => ⟨S1024, .i32⟩
  | 77 => ⟨S1024, .i32⟩
  | 78 => ⟨S_, .i32⟩
  | 79 => ⟨S1024, .i32⟩
  | 80 => ⟨S1024, .i32⟩
  | 81 => ⟨S_, .i32⟩
  | 82 => ⟨S1024, .i32⟩
  | 83 => ⟨S1024, .i32⟩
  | 84 => ⟨S_, .i32⟩
  | 85 => ⟨S1024, .i32⟩
  | 86 => ⟨S1024, .i32⟩
  | 87 => ⟨S_, .i32⟩
  | 88 => ⟨S12x1024x1024, .i32⟩
  | 89 => ⟨S12x1024x1024, .i32⟩
  | 90 => ⟨S_, .i32⟩
  | 91 => ⟨S12x1024x1024, .i32⟩
  | 92 => ⟨S12x1024x1024, .i32⟩
  | 93 => ⟨S1024, .f32⟩
  | 94 => ⟨S1024, .f32⟩
  | 95 => ⟨S1024, .f32⟩
  | 96 => ⟨S1024, .f32⟩
  | 97 => ⟨S12x1024x1024, .f32⟩
  | 98 => ⟨S12x1024x1024, .f32⟩
  | 99 => ⟨S_, .f32⟩
  | 100 => ⟨S12x1024x1024, .f32⟩
  | 101 => ⟨S_, .f32⟩
  | 102 => ⟨S12x1024x1024, .f32⟩
  | 103 => ⟨S_, .f32⟩
  | 104 => ⟨S1024, .f32⟩
  | 105 => ⟨S1024, .f32⟩
  | 106 => ⟨S_, .f32⟩
  | 107 => ⟨S1024, .f32⟩
  | 108 => ⟨S1024, .f32⟩
  | 109 => ⟨S_, .f32⟩
  | 110 => ⟨S12x1024x1024, .f32⟩
  | 111 => ⟨S12x1024x1024, .f32⟩
  | 112 => ⟨S1x1024x1, .f32⟩
  | 113 => ⟨S1x1x1024, .f32⟩
  | 114 => ⟨S1x1024x1024, .f32⟩
  | 115 => ⟨S1x1024x1024, .f32⟩
  | 116 => ⟨S1x1024x1024, .f32⟩
  | 117 => ⟨S12x1024x1024, .f32⟩
  | 118 => ⟨S12x1024x1024, .f32⟩
  | 119 => ⟨S1x1024x1, .i32⟩
  | 120 => ⟨S1x1x1024, .i32⟩
  | 121 => ⟨S_, .i32⟩
  | 122 => ⟨S12x1x1, .i32⟩
  | 123 => ⟨S12x1x1, .i1⟩
  | 124 => ⟨S_, .i32⟩
  | 125 => ⟨S12x1x1, .i32⟩
  | 126 => ⟨S12x1x1, .i32⟩
  | 127 => ⟨S12x1x1, .i32⟩
  | _ => ⟨S4x3x1024x1024, .f32⟩

abbrev hbmTy0_3 (i : Nat) : BufTy := match i % 128 with
  | 0 => ⟨S_, .i32⟩
  | 1 => ⟨S1x1024x1, .i32⟩
  | 2 => ⟨S1x1024x1, .i1⟩
  | 3 => ⟨S_, .i32⟩
  | 4 => ⟨S1x1024x1, .i32⟩
  | 5 => ⟨S1x1024x1, .i32⟩
  | 6 => ⟨S1x1024x1, .i32⟩
  | 7 => ⟨S_, .i32⟩
  | 8 => ⟨S1x1x1024, .i32⟩
  | 9 => ⟨S1x1x1024, .i1⟩
  | 10 => ⟨S_, .i32⟩
  | 11 => ⟨S1x1x1024, .i32⟩
  | 12 => ⟨S1x1x1024, .i32⟩
  | 13 => ⟨S1x1x1024, .i32⟩
  | 14 => ⟨S_, .i32⟩
  | 15 => ⟨S12x1024x1024, .i32⟩
  | 16 => ⟨S12x1024x1024, .i1⟩
  | 17 => ⟨S_, .i32⟩
  | 18 => ⟨S12x1024x1024, .i32⟩
  | 19 => ⟨S12x1024x1024, .i32⟩
  | 20 => ⟨S12x1024x1024, .i32⟩
  | 21 => ⟨S12x1024x1024, .i32⟩
  | 22 => ⟨S12x1024x1024, .i32⟩
  | 23 => ⟨S12x1024x1024, .i32⟩
  | 24 => ⟨S12x1024x1024x1, .i32⟩
  | 25 => ⟨S12x1024x1024x1, .i32⟩
  | 26 => ⟨S12x1024x1024x1, .i32⟩
  | 27 => ⟨S12x1024x1024x1, .i32⟩
  | 28 => ⟨S12x1024x1024x4, .i32⟩
  | 29 => ⟨S12x1024x1024, .f32⟩
  | 30 => ⟨S12x1024x1024, .f32⟩
  | 31 => ⟨S12x1024x1024, .f32⟩
  | 32 => ⟨S1x1024x1, .i32⟩
  | 33 => ⟨S1x1x1024, .i32⟩
  | 34 => ⟨S_, .i32⟩
  | 35 => ⟨S12x1x1, .i32⟩
  | 36 => ⟨S12x1x1, .i1⟩
  | 37 => ⟨S_, .i32⟩
  | 38 => ⟨S12x1x1, .i32⟩
  | 39 => ⟨S12x1x1, .i32⟩
  | 40 => ⟨S12x1x1, .i32⟩
  | 41 => ⟨S_, .i32⟩
  | 42 => ⟨S1x1024x1, .i32⟩
  | 43 => ⟨S1x1024x1, .i1⟩
  | 44 => ⟨S_, .i32⟩
  | 45 => ⟨S1x1024x1, .i32⟩
  | 46 => ⟨S1x1024x1, .i32⟩
  | 47 => ⟨S1x1024x1, .i32⟩
  | 48 => ⟨S_, .i32⟩
  | 49 => ⟨S1x1x1024, .i32⟩
  | 50 => ⟨S1x1x1024, .i1⟩
  | 51 => ⟨S_, .i32⟩
  | 52 => ⟨S1x1x1024, .i32⟩
  | 53 => ⟨S1x1x1024, .i32⟩
  | 54 => ⟨S1x1x1024, .i32⟩
  | 55 => ⟨S_, .i32⟩
  | 56 => ⟨S12x1024x1024, .i32⟩
  | 57 => ⟨S12x1024x1024, .i1⟩
  | 58 => ⟨S_, .i32⟩
  | 59 => ⟨S12x1024x1024, .i32⟩
  | 60 => ⟨S12x1024x1024, .i32⟩
  | 61 => ⟨S12x1024x1024, .i32⟩
  | 62 => ⟨S12x1024x1024, .i32⟩
  | 63 => ⟨S12x1024x1024, .i32⟩
  | 64 => ⟨S12x1024x1024, .i32⟩
  | 65 => ⟨S12x1024x1024x1, .i32⟩
  | 66 => ⟨S12x1024x1024x1, .i32⟩
  | 67 => ⟨S12x1024x1024x1, .i32⟩
  | 68 => ⟨S12x1024x1024x1, .i32⟩
  | 69 => ⟨S12x1024x1024x4, .i32⟩
  | 70 => ⟨S12x1024x1024, .f32⟩
  | 71 => ⟨S12x1024x1024, .f32⟩
  | 72 => ⟨S12x1024x1024, .f32⟩
  | 73 => ⟨S1x1024x1, .f32⟩
  | 74 => ⟨S1x1x1024, .f32⟩
  | 75 => ⟨S1x1024x1024, .f32⟩
  | 76 => ⟨S1x1024x1024, .f32⟩
  | 77 => ⟨S1x1024x1024, .f32⟩
  | 78 => ⟨S12x1024x1024, .f32⟩
  | 79 => ⟨S12x1024x1024, .f32⟩
  | 80 => ⟨S1x1024x1, .i32⟩
  | 81 => ⟨S1x1x1024, .i32⟩
  | 82 => ⟨S_, .i32⟩
  | 83 => ⟨S12x1x1, .i32⟩
  | 84 => ⟨S12x1x1, .i1⟩
  | 85 => ⟨S_, .i32⟩
  | 86 => ⟨S12x1x1, .i32⟩
  | 87 => ⟨S12x1x1, .i32⟩
  | 88 => ⟨S12x1x1, .i32⟩
  | 89 => ⟨S_, .i32⟩
  | 90 => ⟨S1x1024x1, .i32⟩
  | 91 => ⟨S1x1024x1, .i1⟩
  | 92 => ⟨S_, .i32⟩
  | 93 => ⟨S1x1024x1, .i32⟩
  | 94 => ⟨S1x1024x1, .i32⟩
  | 95 => ⟨S1x1024x1, .i32⟩
  | 96 => ⟨S_, .i32⟩
  | 97 => ⟨S1x1x1024, .i32⟩
  | 98 => ⟨S1x1x1024, .i1⟩
  | 99 => ⟨S_, .i32⟩
  | 100 => ⟨S1x1x1024, .i32⟩
  | 101 => ⟨S1x1x1024, .i32⟩
  | 102 => ⟨S1x1x1024, .i32⟩
  | 103 => ⟨S_, .i32⟩
  | 104 => ⟨S12x1024x1024, .i32⟩
  | 105 => ⟨S12x1024x1024, .i1⟩
  | 106 => ⟨S_, .i32⟩
  | 107 => ⟨S12x1024x1024, .i32⟩
  | 108 => ⟨S12x1024x1024, .i32⟩
  | 109 => ⟨S12x1024x1024, .i32⟩
  | 110 => ⟨S12x1024x1024, .i32⟩
  | 111 => ⟨S12x1024x1024, .i32⟩
  | 112 => ⟨S12x1024x1024, .i32⟩
  | 113 => ⟨S12x1024x1024x1, .i32⟩
  | 114 => ⟨S12x1024x1024x1, .i32⟩
  | 115 => ⟨S12x1024x1024x1, .i32⟩
  | 116 => ⟨S12x1024x1024x1, .i32⟩
  | 117 => ⟨S12x1024x1024x4, .i32⟩
  | 118 => ⟨S12x1024x1024, .f32⟩
  | 119 => ⟨S12x1024x1024, .f32⟩
  | 120 => ⟨S12x1024x1024, .f32⟩
  | 121 => ⟨S1x1024x1, .i32⟩
  | 122 => ⟨S1x1x1024, .i32⟩
  | 123 => ⟨S_, .i32⟩
  | 124 => ⟨S12x1x1, .i32⟩
  | 125 => ⟨S12x1x1, .i1⟩
  | 126 => ⟨S_, .i32⟩
  | 127 => ⟨S12x1x1, .i32⟩
  | _ => ⟨S4x3x1024x1024, .f32⟩

abbrev hbmTy0_4 (i : Nat) : BufTy := match i % 128 with
  | 0 => ⟨S12x1x1, .i32⟩
  | 1 => ⟨S12x1x1, .i32⟩
  | 2 => ⟨S_, .i32⟩
  | 3 => ⟨S1x1024x1, .i32⟩
  | 4 => ⟨S1x1024x1, .i1⟩
  | 5 => ⟨S_, .i32⟩
  | 6 => ⟨S1x1024x1, .i32⟩
  | 7 => ⟨S1x1024x1, .i32⟩
  | 8 => ⟨S1x1024x1, .i32⟩
  | 9 => ⟨S_, .i32⟩
  | 10 => ⟨S1x1x1024, .i32⟩
  | 11 => ⟨S1x1x1024, .i1⟩
  | 12 => ⟨S_, .i32⟩
  | 13 => ⟨S1x1x1024, .i32⟩
  | 14 => ⟨S1x1x1024, .i32⟩
  | 15 => ⟨S1x1x1024, .i32⟩
  | 16 => ⟨S_, .i32⟩
  | 17 => ⟨S12x1024x1024, .i32⟩
  | 18 => ⟨S12x1024x1024, .i1⟩
  | 19 => ⟨S_, .i32⟩
  | 20 => ⟨S12x1024x1024, .i32⟩
  | 21 => ⟨S12x1024x1024, .i32⟩
  | 22 => ⟨S12x1024x1024, .i32⟩
  | 23 => ⟨S12x1024x1024, .i32⟩
  | 24 => ⟨S12x1024x1024, .i32⟩
  | 25 => ⟨S12x1024x1024, .i32⟩
  | 26 => ⟨S12x1024x1024x1, .i32⟩
  | 27 => ⟨S12x1024x1024x1, .i32⟩
  | 28 => ⟨S12x1024x1024x1, .i32⟩
  | 29 => ⟨S12x1024x1024x1, .i32⟩
  | 30 => ⟨S12x1024x1024x4, .i32⟩
  | 31 => ⟨S12x1024x1024, .f32⟩
  | 32 => ⟨S12x1024x1024, .f32⟩
  | 33 => ⟨S12x1024x1024, .f32⟩
  | 34 => ⟨S_, .f32⟩
  | 35 => ⟨S12x1024x1024, .f32⟩
  | 36 => ⟨S12x1024x1024, .f32⟩
  | 37 => ⟨S1x1024x1, .f32⟩
  | 38 => ⟨S1x1x1024, .f32⟩
  | 39 => ⟨S1x1024x1024, .f32⟩
  | 40 => ⟨S1x1024x1024, .f32⟩
  | 41 => ⟨S1x1024x1024, .f32⟩
  | 42 => ⟨S12x1024x1024, .f32⟩
  | 43 => ⟨S12x1024x1024, .f32⟩
  | 44 => ⟨S1x1024x1, .i32⟩
  | 45 => ⟨S1x1x1024, .i32⟩
  | 46 => ⟨S_, .i32⟩
  | 47 => ⟨S12x1x1, .i32⟩
  | 48 => ⟨S12x1x1, .i1⟩
  | 49 => ⟨S_, .i32⟩
  | 50 => ⟨S12x1x1, .i32⟩
  | 51 => ⟨S12x1x1, .i32⟩
  | 52 => ⟨S12x1x1, .i32⟩
  | 53 => ⟨S_, .i32⟩
  | 54 => ⟨S1x1024x1, .i32⟩
  | 55 => ⟨S1x1024x1, .i1⟩
  | 56 => ⟨S_, .i32⟩
  | 57 => ⟨S1x1024x1, .i32⟩
  | 58 => ⟨S1x1024x1, .i32⟩
  | 59 => ⟨S1x1024x1, .i32⟩
  | 60 => ⟨S_, .i32⟩
  | 61 => ⟨S1x1x1024, .i32⟩
  | 62 => ⟨S1x1x1024, .i1⟩
  | 63 => ⟨S_, .i32⟩
  | 64 => ⟨S1x1x1024, .i32⟩
  | 65 => ⟨S1x1x1024, .i32⟩
  | 66 => ⟨S1x1x1024, .i32⟩
  | 67 => ⟨S_, .i32⟩
  | 68 => ⟨S12x1024x1024, .i32⟩
  | 69 => ⟨S12x1024x1024, .i1⟩
  | 70 => ⟨S_, .i32⟩
  | 71 => ⟨S12x1024x1024, .i32⟩
  | 72 => ⟨S12x1024x1024, .i32⟩
  | 73 => ⟨S12x1024x1024, .i32⟩
  | 74 => ⟨S12x1024x1024, .i32⟩
  | 75 => ⟨S12x1024x1024, .i32⟩
  | 76 => ⟨S12x1024x1024, .i32⟩
  | 77 => ⟨S12x1024x1024x1, .i32⟩
  | 78 => ⟨S12x1024x1024x1, .i32⟩
  | 79 => ⟨S12x1024x1024x1, .i32⟩
  | 80 => ⟨S12x1024x1024x1, .i32⟩
  | 81 => ⟨S12x1024x1024x4, .i32⟩
  | 82 => ⟨S12x1024x1024, .f32⟩
  | 83 => ⟨S12x1024x1024, .f32⟩
  | 84 => ⟨S12x1024x1024, .f32⟩
  | 85 => ⟨S1x1024x1, .i32⟩
  | 86 => ⟨S1x1x1024, .i32⟩
  | 87 => ⟨S_, .i32⟩
  | 88 => ⟨S12x1x1, .i32⟩
  | 89 => ⟨S12x1x1, .i1⟩
  | 90 => ⟨S_, .i32⟩
  | 91 => ⟨S12x1x1, .i32⟩
  | 92 => ⟨S12x1x1, .i32⟩
  | 93 => ⟨S12x1x1, .i32⟩
  | 94 => ⟨S_, .i32⟩
  | 95 => ⟨S1x1024x1, .i32⟩
  | 96 => ⟨S1x1024x1, .i1⟩
  | 97 => ⟨S_, .i32⟩
  | 98 => ⟨S1x1024x1, .i32⟩
  | 99 => ⟨S1x1024x1, .i32⟩
  | 100 => ⟨S1x1024x1, .i32⟩
  | 101 => ⟨S_, .i32⟩
  | 102 => ⟨S1x1x1024, .i32⟩
  | 103 => ⟨S1x1x1024, .i1⟩
  | 104 => ⟨S_, .i32⟩
  | 105 => ⟨S1x1x1024, .i32⟩
  | 106 => ⟨S1x1x1024, .i32⟩
  | 107 => ⟨S1x1x1024, .i32⟩
  | 108 => ⟨S_, .i32⟩
  | 109 => ⟨S12x1024x1024, .i32⟩
  | 110 => ⟨S12x1024x1024, .i1⟩
  | 111 => ⟨S_, .i32⟩
  | 112 => ⟨S12x1024x1024, .i32⟩
  | 113 => ⟨S12x1024x1024, .i32⟩
  | 114 => ⟨S12x1024x1024, .i32⟩
  | 115 => ⟨S12x1024x1024, .i32⟩
  | 116 => ⟨S12x1024x1024, .i32⟩
  | 117 => ⟨S12x1024x1024, .i32⟩
  | 118 => ⟨S12x1024x1024x1, .i32⟩
  | 119 => ⟨S12x1024x1024x1, .i32⟩
  | 120 => ⟨S12x1024x1024x1, .i32⟩
  | 121 => ⟨S12x1024x1024x1, .i32⟩
  | 122 => ⟨S12x1024x1024x4, .i32⟩
  | 123 => ⟨S12x1024x1024, .f32⟩
  | 124 => ⟨S12x1024x1024, .f32⟩
  | 125 => ⟨S12x1024x1024, .f32⟩
  | 126 => ⟨S1x1024x1, .f32⟩
  | 127 => ⟨S1x1x1024, .f32⟩
  | _ => ⟨S4x3x1024x1024, .f32⟩

abbrev hbmTy0_5 (i : Nat) : BufTy := match i % 128 with
  | 0 => ⟨S1x1024x1024, .f32⟩
  | 1 => ⟨S1x1024x1024, .f32⟩
  | 2 => ⟨S1x1024x1024, .f32⟩
  | 3 => ⟨S12x1024x1024, .f32⟩
  | 4 => ⟨S12x1024x1024, .f32⟩
  | 5 => ⟨S1x1024x1, .i32⟩
  | 6 => ⟨S1x1x1024, .i32⟩
  | 7 => ⟨S_, .i32⟩
  | 8 => ⟨S12x1x1, .i32⟩
  | 9 => ⟨S12x1x1, .i1⟩
  | 10 => ⟨S_, .i32⟩
  | 11 => ⟨S12x1x1, .i32⟩
  | 12 => ⟨S12x1x1, .i32⟩
  | 13 => ⟨S12x1x1, .i32⟩
  | 14 => ⟨S_, .i32⟩
  | 15 => ⟨S1x1024x1, .i32⟩
  | 16 => ⟨S1x1024x1, .i1⟩
  | 17 => ⟨S_, .i32⟩
  | 18 => ⟨S1x1024x1, .i32⟩
  | 19 => ⟨S1x1024x1, .i32⟩
  | 20 => ⟨S1x1024x1, .i32⟩
  | 21 => ⟨S_, .i32⟩
  | 22 => ⟨S1x1x1024, .i32⟩
  | 23 => ⟨S1x1x1024, .i1⟩
  | 24 => ⟨S_, .i32⟩
  | 25 => ⟨S1x1x1024, .i32⟩
  | 26 => ⟨S1x1x1024, .i32⟩
  | 27 => ⟨S1x1x1024, .i32⟩
  | 28 => ⟨S_, .i32⟩
  | 29 => ⟨S12x1024x1024, .i32⟩
  | 30 => ⟨S12x1024x1024, .i1⟩
  | 31 => ⟨S_, .i32⟩
  | 32 => ⟨S12x1024x1024, .i32⟩
  | 33 => ⟨S12x1024x1024, .i32⟩
  | 34 => ⟨S12x1024x1024, .i32⟩
  | 35 => ⟨S12x1024x1024, .i32⟩
  | 36 => ⟨S12x1024x1024, .i32⟩
  | 37 => ⟨S12x1024x1024, .i32⟩
  | 38 => ⟨S12x1024x1024x1, .i32⟩
  | 39 => ⟨S12x1024x1024x1, .i32⟩
  | 40 => ⟨S12x1024x1024x1, .i32⟩
  | 41 => ⟨S12x1024x1024x1, .i32⟩
  | 42 => ⟨S12x1024x1024x4, .i32⟩
  | 43 => ⟨S12x1024x1024, .f32⟩
  | 44 => ⟨S12x1024x1024, .f32⟩
  | 45 => ⟨S12x1024x1024, .f32⟩
  | 46 => ⟨S1x1024x1, .i32⟩
  | 47 => ⟨S1x1x1024, .i32⟩
  | 48 => ⟨S_, .i32⟩
  | 49 => ⟨S12x1x1, .i32⟩
  | 50 => ⟨S12x1x1, .i1⟩
  | 51 => ⟨S_, .i32⟩
  | 52 => ⟨S12x1x1, .i32⟩
  | 53 => ⟨S12x1x1, .i32⟩
  | 54 => ⟨S12x1x1, .i32⟩
  | 55 => ⟨S_, .i32⟩
  | 56 => ⟨S1x1024x1, .i32⟩
  | 57 => ⟨S1x1024x1, .i1⟩
  | 58 => ⟨S_, .i32⟩
  | 59 => ⟨S1x1024x1, .i32⟩
  | 60 => ⟨S1x1024x1, .i32⟩
  | 61 => ⟨S1x1024x1, .i32⟩
  | 62 => ⟨S_, .i32⟩
  | 63 => ⟨S1x1x1024, .i32⟩
  | 64 => ⟨S1x1x1024, .i1⟩
  | 65 => ⟨S_, .i32⟩
  | 66 => ⟨S1x1x1024, .i32⟩
  | 67 => ⟨S1x1x1024, .i32⟩
  | 68 => ⟨S1x1x1024, .i32⟩
  | 69 => ⟨S_, .i32⟩
  | 70 => ⟨S12x1024x1024, .i32⟩
  | 71 => ⟨S12x1024x1024, .i1⟩
  | 72 => ⟨S_, .i32⟩
  | 73 => ⟨S12x1024x1024, .i32⟩
  | 74 => ⟨S12x1024x1024, .i32⟩
  | 75 => ⟨S12x1024x1024, .i32⟩
  | 76 => ⟨S12x1024x1024, .i32⟩
  | 77 => ⟨S12x1024x1024, .i32⟩
  | 78 => ⟨S12x1024x1024, .i32⟩
  | 79 => ⟨S12x1024x1024x1, .i32⟩
  | 80 => ⟨S12x1024x1024x1, .i32⟩
  | 81 => ⟨S12x1024x1024x1, .i32⟩
  | 82 => ⟨S12x1024x1024x1, .i32⟩
  | 83 => ⟨S12x1024x1024x4, .i32⟩
  | 84 => ⟨S12x1024x1024, .f32⟩
  | 85 => ⟨S12x1024x1024, .f32⟩
  | 86 => ⟨S12x1024x1024, .f32⟩
  | 87 => ⟨S_, .f32⟩
  | 88 => ⟨S1024, .f32⟩
  | 89 => ⟨S1024, .f32⟩
  | 90 => ⟨S_, .f32⟩
  | 91 => ⟨S12x1024x1024, .f32⟩
  | 92 => ⟨S12x1024x1024, .f32⟩
  | 93 => ⟨S1x1024x1, .f32⟩
  | 94 => ⟨S1x1x1024, .f32⟩
  | 95 => ⟨S1x1024x1024, .f32⟩
  | 96 => ⟨S1x1024x1024, .f32⟩
  | 97 => ⟨S1x1024x1024, .f32⟩
  | 98 => ⟨S12x1024x1024, .f32⟩
  | 99 => ⟨S12x1024x1024, .f32⟩
  | 100 => ⟨S1x1024x1, .i32⟩
  | 101 => ⟨S1x1x1024, .i32⟩
  | 102 => ⟨S_, .i32⟩
  | 103 => ⟨S12x1x1, .i32⟩
  | 104 => ⟨S12x1x1, .i1⟩
  | 105 => ⟨S_, .i32⟩
  | 106 => ⟨S12x1x1, .i32⟩
  | 107 => ⟨S12x1x1, .i32⟩
  | 108 => ⟨S12x1x1, .i32⟩
  | 109 => ⟨S_, .i32⟩
  | 110 => ⟨S1x1024x1, .i32⟩
  | 111 => ⟨S1x1024x1, .i1⟩
  | 112 => ⟨S_, .i32⟩
  | 113 => ⟨S1x1024x1, .i32⟩
  | 114 => ⟨S1x1024x1, .i32⟩
  | 115 => ⟨S1x1024x1, .i32⟩
  | 116 => ⟨S_, .i32⟩
  | 117 => ⟨S1x1x1024, .i32⟩
  | 118 => ⟨S1x1x1024, .i1⟩
  | 119 => ⟨S_, .i32⟩
  | 120 => ⟨S1x1x1024, .i32⟩
  | 121 => ⟨S1x1x1024, .i32⟩
  | 122 => ⟨S1x1x1024, .i32⟩
  | 123 => ⟨S_, .i32⟩
  | 124 => ⟨S12x1024x1024, .i32⟩
  | 125 => ⟨S12x1024x1024, .i1⟩
  | 126 => ⟨S_, .i32⟩
  | 127 => ⟨S12x1024x1024, .i32⟩
  | _ => ⟨S4x3x1024x1024, .f32⟩

abbrev hbmTy0_6 (i : Nat) : BufTy := match i % 128 with
  | 0 => ⟨S12x1024x1024, .i32⟩
  | 1 => ⟨S12x1024x1024, .i32⟩
  | 2 => ⟨S12x1024x1024, .i32⟩
  | 3 => ⟨S12x1024x1024, .i32⟩
  | 4 => ⟨S12x1024x1024, .i32⟩
  | 5 => ⟨S12x1024x1024x1, .i32⟩
  | 6 => ⟨S12x1024x1024x1, .i32⟩
  | 7 => ⟨S12x1024x1024x1, .i32⟩
  | 8 => ⟨S12x1024x1024x1, .i32⟩
  | 9 => ⟨S12x1024x1024x4, .i32⟩
  | 10 => ⟨S12x1024x1024, .f32⟩
  | 11 => ⟨S12x1024x1024, .f32⟩
  | 12 => ⟨S12x1024x1024, .f32⟩
  | 13 => ⟨S1x1024x1, .i32⟩
  | 14 => ⟨S1x1x1024, .i32⟩
  | 15 => ⟨S_, .i32⟩
  | 16 => ⟨S12x1x1, .i32⟩
  | 17 => ⟨S12x1x1, .i1⟩
  | 18 => ⟨S_, .i32⟩
  | 19 => ⟨S12x1x1, .i32⟩
  | 20 => ⟨S12x1x1, .i32⟩
  | 21 => ⟨S12x1x1, .i32⟩
  | 22 => ⟨S_, .i32⟩
  | 23 => ⟨S1x1024x1, .i32⟩
  | 24 => ⟨S1x1024x1, .i1⟩
  | 25 => ⟨S_, .i32⟩
  | 26 => ⟨S1x1024x1, .i32⟩
  | 27 => ⟨S1x1024x1, .i32⟩
  | 28 => ⟨S1x1024x1, .i32⟩
  | 29 => ⟨S_, .i32⟩
  | 30 => ⟨S1x1x1024, .i32⟩
  | 31 => ⟨S1x1x1024, .i1⟩
  | 32 => ⟨S_, .i32⟩
  | 33 => ⟨S1x1x1024, .i32⟩
  | 34 => ⟨S1x1x1024, .i32⟩
  | 35 => ⟨S1x1x1024, .i32⟩
  | 36 => ⟨S_, .i32⟩
  | 37 => ⟨S12x1024x1024, .i32⟩
  | 38 => ⟨S12x1024x1024, .i1⟩
  | 39 => ⟨S_, .i32⟩
  | 40 => ⟨S12x1024x1024, .i32⟩
  | 41 => ⟨S12x1024x1024, .i32⟩
  | 42 => ⟨S12x1024x1024, .i32⟩
  | 43 => ⟨S12x1024x1024, .i32⟩
  | 44 => ⟨S12x1024x1024, .i32⟩
  | 45 => ⟨S12x1024x1024, .i32⟩
  | 46 => ⟨S12x1024x1024x1, .i32⟩
  | 47 => ⟨S12x1024x1024x1, .i32⟩
  | 48 => ⟨S12x1024x1024x1, .i32⟩
  | 49 => ⟨S12x1024x1024x1, .i32⟩
  | 50 => ⟨S12x1024x1024x4, .i32⟩
  | 51 => ⟨S12x1024x1024, .f32⟩
  | 52 => ⟨S12x1024x1024, .f32⟩
  | 53 => ⟨S12x1024x1024, .f32⟩
  | 54 => ⟨S1x1024x1, .f32⟩
  | 55 => ⟨S1x1x1024, .f32⟩
  | 56 => ⟨S1x1024x1024, .f32⟩
  | 57 => ⟨S1x1024x1024, .f32⟩
  | 58 => ⟨S1x1024x1024, .f32⟩
  | 59 => ⟨S12x1024x1024, .f32⟩
  | 60 => ⟨S12x1024x1024, .f32⟩
  | 61 => ⟨S1x1024x1, .i32⟩
  | 62 => ⟨S1x1x1024, .i32⟩
  | 63 => ⟨S_, .i32⟩
  | 64 => ⟨S12x1x1, .i32⟩
  | 65 => ⟨S12x1x1, .i1⟩
  | 66 => ⟨S_, .i32⟩
  | 67 => ⟨S12x1x1, .i32⟩
  | 68 => ⟨S12x1x1, .i32⟩
  | 69 => ⟨S12x1x1, .i32⟩
  | 70 => ⟨S_, .i32⟩
  | 71 => ⟨S1x1024x1, .i32⟩
  | 72 => ⟨S1x1024x1, .i1⟩
  | 73 => ⟨S_, .i32⟩
  | 74 => ⟨S1x1024x1, .i32⟩
  | 75 => ⟨S1x1024x1, .i32⟩
  | 76 => ⟨S1x1024x1, .i32⟩
  | 77 => ⟨S_, .i32⟩
  | 78 => ⟨S1x1x1024, .i32⟩
  | 79 => ⟨S1x1x1024, .i1⟩
  | 80 => ⟨S_, .i32⟩
  | 81 => ⟨S1x1x1024, .i32⟩
  | 82 => ⟨S1x1x1024, .i32⟩
  | 83 => ⟨S1x1x1024, .i32⟩
  | 84 => ⟨S_, .i32⟩
  | 85 => ⟨S12x1024x1024, .i32⟩
  | 86 => ⟨S12x1024x1024, .i1⟩
  | 87 => ⟨S_, .i32⟩
  | 88 => ⟨S12x1024x1024, .i32⟩
  | 89 => ⟨S12x1024x1024, .i32⟩
  | 90 => ⟨S12x1024x1024, .i32⟩
  | 91 => ⟨S12x1024x1024, .i32⟩
  | 92 => ⟨S12x1024x1024, .i32⟩
  | 93 => ⟨S12x1024x1024, .i32⟩
  | 94 => ⟨S12x1024x1024x1, .i32⟩
  | 95 => ⟨S12x1024x1024x1, .i32⟩
  | 96 => ⟨S12x1024x1024x1, .i32⟩
  | 97 => ⟨S12x1024x1024x1, .i32⟩
  | 98 => ⟨S12x1024x1024x4, .i32⟩
  | 99 => ⟨S12x1024x1024, .f32⟩
  | 100 => ⟨S12x1024x1024, .f32⟩
  | 101 => ⟨S12x1024x1024, .f32⟩
  | 102 => ⟨S1x1024x1, .i32⟩
  | 103 => ⟨S1x1x1024, .i32⟩
  | 104 => ⟨S_, .i32⟩
  | 105 => ⟨S12x1x1, .i32⟩
  | 106 => ⟨S12x1x1, .i1⟩
  | 107 => ⟨S_, .i32⟩
  | 108 => ⟨S12x1x1, .i32⟩
  | 109 => ⟨S12x1x1, .i32⟩
  | 110 => ⟨S12x1x1, .i32⟩
  | 111 => ⟨S_, .i32⟩
  | 112 => ⟨S1x1024x1, .i32⟩
  | 113 => ⟨S1x1024x1, .i1⟩
  | 114 => ⟨S_, .i32⟩
  | 115 => ⟨S1x1024x1, .i32⟩
  | 116 => ⟨S1x1024x1, .i32⟩
  | 117 => ⟨S1x1024x1, .i32⟩
  | 118 => ⟨S_, .i32⟩
  | 119 => ⟨S1x1x1024, .i32⟩
  | 120 => ⟨S1x1x1024, .i1⟩
  | 121 => ⟨S_, .i32⟩
  | 122 => ⟨S1x1x1024, .i32⟩
  | 123 => ⟨S1x1x1024, .i32⟩
  | 124 => ⟨S1x1x1024, .i32⟩
  | 125 => ⟨S_, .i32⟩
  | 126 => ⟨S12x1024x1024, .i32⟩
  | 127 => ⟨S12x1024x1024, .i1⟩
  | _ => ⟨S4x3x1024x1024, .f32⟩

abbrev hbmTy0_7 (i : Nat) : BufTy := match i % 128 with
  | 0 => ⟨S_, .i32⟩
  | 1 => ⟨S12x1024x1024, .i32⟩
  | 2 => ⟨S12x1024x1024, .i32⟩
  | 3 => ⟨S12x1024x1024, .i32⟩
  | 4 => ⟨S12x1024x1024, .i32⟩
  | 5 => ⟨S12x1024x1024, .i32⟩
  | 6 => ⟨S12x1024x1024, .i32⟩
  | 7 => ⟨S12x1024x1024x1, .i32⟩
  | 8 => ⟨S12x1024x1024x1, .i32⟩
  | 9 => ⟨S12x1024x1024x1, .i32⟩
  | 10 => ⟨S12x1024x1024x1, .i32⟩
  | 11 => ⟨S12x1024x1024x4, .i32⟩
  | 12 => ⟨S12x1024x1024, .f32⟩
  | 13 => ⟨S12x1024x1024, .f32⟩
  | 14 => ⟨S12x1024x1024, .f32⟩
  | 15 => ⟨S_, .f32⟩
  | 16 => ⟨S12x1024x1024, .f32⟩
  | 17 => ⟨S12x1024x1024, .f32⟩
  | 18 => ⟨S1x1024x1, .f32⟩
  | 19 => ⟨S1x1x1024, .f32⟩
  | 20 => ⟨S1x1024x1024, .f32⟩
  | 21 => ⟨S1x1024x1024, .f32⟩
  | 22 => ⟨S1x1024x1024, .f32⟩
  | 23 => ⟨S12x1024x1024, .f32⟩
  | 24 => ⟨S12x1024x1024, .f32⟩
  | 25 => ⟨S1x1024x1, .i32⟩
  | 26 => ⟨S1x1x1024, .i32⟩
  | 27 => ⟨S_, .i32⟩
  | 28 => ⟨S12x1x1, .i32⟩
  | 29 => ⟨S12x1x1, .i1⟩
  | 30 => ⟨S_, .i32⟩
  | 31 => ⟨S12x1x1, .i32⟩
  | 32 => ⟨S12x1x1, .i32⟩
  | 33 => ⟨S12x1x1, .i32⟩
  | 34 => ⟨S_, .i32⟩
  | 35 => ⟨S1x1024x1, .i32⟩
  | 36 => ⟨S1x1024x1, .i1⟩
  | 37 => ⟨S_, .i32⟩
  | 38 => ⟨S1x1024x1, .i32⟩
  | 39 => ⟨S1x1024x1, .i32⟩
  | 40 => ⟨S1x1024x1, .i32⟩
  | 41 => ⟨S_, .i32⟩
  | 42 => ⟨S1x1x1024, .i32⟩
  | 43 => ⟨S1x1x1024, .i1⟩
  | 44 => ⟨S_, .i32⟩
  | 45 => ⟨S1x1x1024, .i32⟩
  | 46 => ⟨S1x1x1024, .i32⟩
  | 47 => ⟨S1x1x1024, .i32⟩
  | 48 => ⟨S_, .i32⟩
  | 49 => ⟨S12x1024x1024, .i32⟩
  | 50 => ⟨S12x1024x1024, .i1⟩
  | 51 => ⟨S_, .i32⟩
  | 52 => ⟨S12x1024x1024, .i32⟩
  | 53 => ⟨S12x1024x1024, .i32⟩
  | 54 => ⟨S12x1024x1024, .i32⟩
  | 55 => ⟨S12x1024x1024, .i32⟩
  | 56 => ⟨S12x1024x1024, .i32⟩
  | 57 => ⟨S12x1024x1024, .i32⟩
  | 58 => ⟨S12x1024x1024x1, .i32⟩
  | 59 => ⟨S12x1024x1024x1, .i32⟩
  | 60 => ⟨S12x1024x1024x1, .i32⟩
  | 61 => ⟨S12x1024x1024x1, .i32⟩
  | 62 => ⟨S12x1024x1024x4, .i32⟩
  | 63 => ⟨S12x1024x1024, .f32⟩
  | 64 => ⟨S12x1024x1024, .f32⟩
  | 65 => ⟨S12x1024x1024, .f32⟩
  | 66 => ⟨S1x1024x1, .i32⟩
  | 67 => ⟨S1x1x1024, .i32⟩
  | 68 => ⟨S_, .i32⟩
  | 69 => ⟨S12x1x1, .i32⟩
  | 70 => ⟨S12x1x1, .i1⟩
  | 71 => ⟨S_, .i32⟩
  | 72 => ⟨S12x1x1, .i32⟩
  | 73 => ⟨S12x1x1, .i32⟩
  | 74 => ⟨S12x1x1, .i32⟩
  | 75 => ⟨S_, .i32⟩
  | 76 => ⟨S1x1024x1, .i32⟩
  | 77 => ⟨S1x1024x1, .i1⟩
  | 78 => ⟨S_, .i32⟩
  | 79 => ⟨S1x1024x1, .i32⟩
  | 80 => ⟨S1x1024x1, .i32⟩
  | 81 => ⟨S1x1024x1, .i32⟩
  | 82 => ⟨S_, .i32⟩
  | 83 => ⟨S1x1x1024, .i32⟩
  | 84 => ⟨S1x1x1024, .i1⟩
  | 85 => ⟨S_, .i32⟩
  | 86 => ⟨S1x1x1024, .i32⟩
  | 87 => ⟨S1x1x1024, .i32⟩
  | 88 => ⟨S1x1x1024, .i32⟩
  | 89 => ⟨S_, .i32⟩
  | 90 => ⟨S12x1024x1024, .i32⟩
  | 91 => ⟨S12x1024x1024, .i1⟩
  | 92 => ⟨S_, .i32⟩
  | 93 => ⟨S12x1024x1024, .i32⟩
  | 94 => ⟨S12x1024x1024, .i32⟩
  | 95 => ⟨S12x1024x1024, .i32⟩
  | 96 => ⟨S12x1024x1024, .i32⟩
  | 97 => ⟨S12x1024x1024, .i32⟩
  | 98 => ⟨S12x1024x1024, .i32⟩
  | 99 => ⟨S12x1024x1024x1, .i32⟩
  | 100 => ⟨S12x1024x1024x1, .i32⟩
  | 101 => ⟨S12x1024x1024x1, .i32⟩
  | 102 => ⟨S12x1024x1024x1, .i32⟩
  | 103 => ⟨S12x1024x1024x4, .i32⟩
  | 104 => ⟨S12x1024x1024, .f32⟩
  | 105 => ⟨S12x1024x1024, .f32⟩
  | 106 => ⟨S12x1024x1024, .f32⟩
  | 107 => ⟨S1x1024x1, .f32⟩
  | 108 => ⟨S1x1x1024, .f32⟩
  | 109 => ⟨S1x1024x1024, .f32⟩
  | 110 => ⟨S1x1024x1024, .f32⟩
  | 111 => ⟨S1x1024x1024, .f32⟩
  | 112 => ⟨S12x1024x1024, .f32⟩
  | 113 => ⟨S12x1024x1024, .f32⟩
  | 114 => ⟨S1x1024x1, .i32⟩
  | 115 => ⟨S1x1x1024, .i32⟩
  | 116 => ⟨S_, .i32⟩
  | 117 => ⟨S12x1x1, .i32⟩
  | 118 => ⟨S12x1x1, .i1⟩
  | 119 => ⟨S_, .i32⟩
  | 120 => ⟨S12x1x1, .i32⟩
  | 121 => ⟨S12x1x1, .i32⟩
  | 122 => ⟨S12x1x1, .i32⟩
  | 123 => ⟨S_, .i32⟩
  | 124 => ⟨S1x1024x1, .i32⟩
  | 125 => ⟨S1x1024x1, .i1⟩
  | 126 => ⟨S_, .i32⟩
  | 127 => ⟨S1x1024x1, .i32⟩
  | _ => ⟨S4x3x1024x1024, .f32⟩

abbrev hbmTy0_8 (i : Nat) : BufTy := match i % 128 with
  | 0 => ⟨S1x1024x1, .i32⟩
  | 1 => ⟨S1x1024x1, .i32⟩
  | 2 => ⟨S_, .i32⟩
  | 3 => ⟨S1x1x1024, .i32⟩
  | 4 => ⟨S1x1x1024, .i1⟩
  | 5 => ⟨S_, .i32⟩
  | 6 => ⟨S1x1x1024, .i32⟩
  | 7 => ⟨S1x1x1024, .i32⟩
  | 8 => ⟨S1x1x1024, .i32⟩
  | 9 => ⟨S_, .i32⟩
  | 10 => ⟨S12x1024x1024, .i32⟩
  | 11 => ⟨S12x1024x1024, .i1⟩
  | 12 => ⟨S_, .i32⟩
  | 13 => ⟨S12x1024x1024, .i32⟩
  | 14 => ⟨S12x1024x1024, .i32⟩
  | 15 => ⟨S12x1024x1024, .i32⟩
  | 16 => ⟨S12x1024x1024, .i32⟩
  | 17 => ⟨S12x1024x1024, .i32⟩
  | 18 => ⟨S12x1024x1024, .i32⟩
  | 19 => ⟨S12x1024x1024x1, .i32⟩
  | 20 => ⟨S12x1024x1024x1, .i32⟩
  | 21 => ⟨S12x1024x1024x1, .i32⟩
  | 22 => ⟨S12x1024x1024x1, .i32⟩
  | 23 => ⟨S12x1024x1024x4, .i32⟩
  | 24 => ⟨S12x1024x1024, .f32⟩
  | 25 => ⟨S12x1024x1024, .f32⟩
  | 26 => ⟨S12x1024x1024, .f32⟩
  | 27 => ⟨S1x1024x1, .i32⟩
  | 28 => ⟨S1x1x1024, .i32⟩
  | 29 => ⟨S_, .i32⟩
  | 30 => ⟨S12x1x1, .i32⟩
  | 31 => ⟨S12x1x1, .i1⟩
  | 32 => ⟨S_, .i32⟩
  | 33 => ⟨S12x1x1, .i32⟩
  | 34 => ⟨S12x1x1, .i32⟩
  | 35 => ⟨S12x1x1, .i32⟩
  | 36 => ⟨S_, .i32⟩
  | 37 => ⟨S1x1024x1, .i32⟩
  | 38 => ⟨S1x1024x1, .i1⟩
  | 39 => ⟨S_, .i32⟩
  | 40 => ⟨S1x1024x1, .i32⟩
  | 41 => ⟨S1x1024x1, .i32⟩
  | 42 => ⟨S1x1024x1, .i32⟩
  | 43 => ⟨S_, .i32⟩
  | 44 => ⟨S1x1x1024, .i32⟩
  | 45 => ⟨S1x1x1024, .i1⟩
  | 46 => ⟨S_, .i32⟩
  | 47 => ⟨S1x1x1024, .i32⟩
  | 48 => ⟨S1x1x1024, .i32⟩
  | 49 => ⟨S1x1x1024, .i32⟩
  | 50 => ⟨S_, .i32⟩
  | 51 => ⟨S12x1024x1024, .i32⟩
  | 52 => ⟨S12x1024x1024, .i1⟩
  | 53 => ⟨S_, .i32⟩
  | 54 => ⟨S12x1024x1024, .i32⟩
  | 55 => ⟨S12x1024x1024, .i32⟩
  | 56 => ⟨S12x1024x1024, .i32⟩
  | 57 => ⟨S12x1024x1024, .i32⟩
  | 58 => ⟨S12x1024x1024, .i32⟩
  | 59 => ⟨S12x1024x1024, .i32⟩
  | 60 => ⟨S12x1024x1024x1, .i32⟩
  | 61 => ⟨S12x1024x1024x1, .i32⟩
  | 62 => ⟨S12x1024x1024x1, .i32⟩
  | 63 => ⟨S12x1024x1024x1, .i32⟩
  | 64 => ⟨S12x1024x1024x4, .i32⟩
  | 65 => ⟨S12x1024x1024, .f32⟩
  | 66 => ⟨S12x1024x1024, .f32⟩
  | 67 => ⟨S12x1024x1024, .f32⟩
  | 68 => ⟨S_, .f32⟩
  | 69 => ⟨S12x1024x1024, .f32⟩
  | 70 => ⟨S12x1024x1024, .f32⟩
  | 71 => ⟨S12x1024x1024, .f32⟩
  | _ => ⟨S4x3x1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4x3x1024x1024, .f32⟩

abbrev bufTy : (tb : Table) → Fin (tcTables nBuf tb) → BufTy
  | .hbm, ⟨i, _⟩ => hbmTy i
  | _, _ => ⟨S4x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_c_2 : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_c_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_12 : Ref sig .tc := ⟨.hbm, 75, rfl⟩
abbrev main_v50 : Ref sig .tc := ⟨.hbm, 76, rfl⟩
abbrev main_cst_13 : Ref sig .tc := ⟨.hbm, 77, rfl⟩
abbrev main_v51 : Ref sig .tc := ⟨.hbm, 78, rfl⟩
abbrev main_c_14 : Ref sig .tc := ⟨.hbm, 79, rfl⟩
abbrev main_v52 : Ref sig .tc := ⟨.hbm, 80, rfl⟩
abbrev main_v53 : Ref sig .tc := ⟨.hbm, 81, rfl⟩
abbrev main_c_15 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_16 : Ref sig .tc := ⟨.hbm, 86, rfl⟩
abbrev main_v57 : Ref sig .tc := ⟨.hbm, 87, rfl⟩
abbrev main_v58 : Ref sig .tc := ⟨.hbm, 88, rfl⟩
abbrev main_c_17 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_18 : Ref sig .tc := ⟨.hbm, 93, rfl⟩
abbrev main_v62 : Ref sig .tc := ⟨.hbm, 94, rfl⟩
abbrev main_v63 : Ref sig .tc := ⟨.hbm, 95, rfl⟩
abbrev main_c_19 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_20 : Ref sig .tc := ⟨.hbm, 100, rfl⟩
abbrev main_v67 : Ref sig .tc := ⟨.hbm, 101, rfl⟩
abbrev main_v68 : Ref sig .tc := ⟨.hbm, 102, rfl⟩
abbrev main_c_21 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_22 : Ref sig .tc := ⟨.hbm, 116, rfl⟩
abbrev main_call4_v0 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_23 : Ref sig .tc := ⟨.hbm, 148, rfl⟩
abbrev main_call5_v0 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_c_24 : Ref sig .tc := ⟨.hbm, 180, rfl⟩
abbrev main_call6_v0 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_c_25 : Ref sig .tc := ⟨.hbm, 212, rfl⟩
abbrev main_call7_v0 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_c_26 : Ref sig .tc := ⟨.hbm, 244, rfl⟩
abbrev main_call8_v0 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_c_27 : Ref sig .tc := ⟨.hbm, 276, rfl⟩
abbrev main_call9_v0 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_cst_28 : Ref sig .tc := ⟨.hbm, 308, rfl⟩
abbrev main_v261 : Ref sig .tc := ⟨.hbm, 309, rfl⟩
abbrev main_v262 : Ref sig .tc := ⟨.hbm, 310, rfl⟩
abbrev main_cst_29 : Ref sig .tc := ⟨.hbm, 311, rfl⟩
abbrev main_v263 : Ref sig .tc := ⟨.hbm, 312, rfl⟩
abbrev main_v264 : Ref sig .tc := ⟨.hbm, 313, rfl⟩
abbrev main_cst_30 : Ref sig .tc := ⟨.hbm, 314, rfl⟩
abbrev main_v265 : Ref sig .tc := ⟨.hbm, 315, rfl⟩
abbrev main_v266 : Ref sig .tc := ⟨.hbm, 316, rfl⟩
abbrev main_cst_31 : Ref sig .tc := ⟨.hbm, 317, rfl⟩
abbrev main_cst_32 : Ref sig .tc := ⟨.hbm, 318, rfl⟩
abbrev main_call10_v0 : Ref sig .tc := ⟨.hbm, 319, rfl⟩
abbrev main_call10_v1 : Ref sig .tc := ⟨.hbm, 320, rfl⟩
abbrev main_call10_v2 : Ref sig .tc := ⟨.hbm, 321, rfl⟩
abbrev main_call10_v3 : Ref sig .tc := ⟨.hbm, 322, rfl⟩
abbrev main_call10_v4 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_c_33 : Ref sig .tc := ⟨.hbm, 331, rfl⟩
abbrev main_v274 : Ref sig .tc := ⟨.hbm, 332, rfl⟩
abbrev main_v275 : Ref sig .tc := ⟨.hbm, 333, rfl⟩
abbrev main_c_34 : Ref sig .tc := ⟨.hbm, 334, rfl⟩
abbrev main_v276 : Ref sig .tc := ⟨.hbm, 335, rfl⟩
abbrev main_v277 : Ref sig .tc := ⟨.hbm, 336, rfl⟩
abbrev main_c_35 : Ref sig .tc := ⟨.hbm, 337, rfl⟩
abbrev main_v278 : Ref sig .tc := ⟨.hbm, 338, rfl⟩
abbrev main_v279 : Ref sig .tc := ⟨.hbm, 339, rfl⟩
abbrev main_c_36 : Ref sig .tc := ⟨.hbm, 340, rfl⟩
abbrev main_v280 : Ref sig .tc := ⟨.hbm, 341, rfl⟩
abbrev main_v281 : Ref sig .tc := ⟨.hbm, 342, rfl⟩
abbrev main_c_37 : Ref sig .tc := ⟨.hbm, 343, rfl⟩
abbrev main_v282 : Ref sig .tc := ⟨.hbm, 344, rfl⟩
abbrev main_v283 : Ref sig .tc := ⟨.hbm, 345, rfl⟩
abbrev main_c_38 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_cst_39 : Ref sig .tc := ⟨.hbm, 355, rfl⟩
abbrev main_v292 : Ref sig .tc := ⟨.hbm, 356, rfl⟩
abbrev main_cst_40 : Ref sig .tc := ⟨.hbm, 357, rfl⟩
abbrev main_v293 : Ref sig .tc := ⟨.hbm, 358, rfl⟩
abbrev main_cst_41 : Ref sig .tc := ⟨.hbm, 359, rfl⟩
abbrev main_v294 : Ref sig .tc := ⟨.hbm, 360, rfl⟩
abbrev main_v295 : Ref sig .tc := ⟨.hbm, 361, rfl⟩
abbrev main_cst_42 : Ref sig .tc := ⟨.hbm, 362, rfl⟩
abbrev main_v296 : Ref sig .tc := ⟨.hbm, 363, rfl⟩
abbrev main_v297 : Ref sig .tc := ⟨.hbm, 364, rfl⟩
abbrev main_cst_43 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_v304 : Ref sig .tc := ⟨.hbm, 372, rfl⟩
abbrev main_v305 : Ref sig .tc := ⟨.hbm, 373, rfl⟩
abbrev main_v306 : Ref sig .tc := ⟨.hbm, 374, rfl⟩
abbrev main_v307 : Ref sig .tc := ⟨.hbm, 375, rfl⟩
abbrev main_v308 : Ref sig .tc := ⟨.hbm, 376, rfl⟩
abbrev main_c_44 : Ref sig .tc := ⟨.hbm, 377, rfl⟩
abbrev main_v309 : Ref sig .tc := ⟨.hbm, 378, rfl⟩
abbrev main_v310 : Ref sig .tc := ⟨.hbm, 379, rfl⟩
abbrev main_c_45 : Ref sig .tc := ⟨.hbm, 380, rfl⟩
abbrev main_v311 : Ref sig .tc := ⟨.hbm, 381, rfl⟩
abbrev main_v312 : Ref sig .tc := ⟨.hbm, 382, rfl⟩
abbrev main_v313 : Ref sig .tc := ⟨.hbm, 383, rfl⟩
abbrev main_c_46 : Ref sig .tc := ⟨.hbm, 384, rfl⟩
abbrev main_v314 : Ref sig .tc := ⟨.hbm, 385, rfl⟩
abbrev main_v315 : Ref sig .tc := ⟨.hbm, 386, rfl⟩
abbrev main_c_47 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_c_48 : Ref sig .tc := ⟨.hbm, 391, rfl⟩
abbrev main_v319 : Ref sig .tc := ⟨.hbm, 392, rfl⟩
abbrev main_v320 : Ref sig .tc := ⟨.hbm, 393, rfl⟩
abbrev main_c_49 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_c_50 : Ref sig .tc := ⟨.hbm, 398, rfl⟩
abbrev main_v324 : Ref sig .tc := ⟨.hbm, 399, rfl⟩
abbrev main_v325 : Ref sig .tc := ⟨.hbm, 400, rfl⟩
abbrev main_c_51 : Ref sig .tc := ⟨.hbm, 401, rfl⟩
abbrev main_v326 : Ref sig .tc := ⟨.hbm, 402, rfl⟩
abbrev main_v327 : Ref sig .tc := ⟨.hbm, 403, rfl⟩
abbrev main_v328 : Ref sig .tc := ⟨.hbm, 404, rfl⟩
abbrev main_v329 : Ref sig .tc := ⟨.hbm, 405, rfl⟩
abbrev main_v330 : Ref sig .tc := ⟨.hbm, 406, rfl⟩
abbrev main_v331 : Ref sig .tc := ⟨.hbm, 407, rfl⟩
abbrev main_v332 : Ref sig .tc := ⟨.hbm, 408, rfl⟩
abbrev main_v333 : Ref sig .tc := ⟨.hbm, 409, rfl⟩
abbrev main_v334 : Ref sig .tc := ⟨.hbm, 410, rfl⟩
abbrev main_v335 : Ref sig .tc := ⟨.hbm, 411, rfl⟩
abbrev main_v336 : Ref sig .tc := ⟨.hbm, 412, rfl⟩
abbrev main_v337 : Ref sig .tc := ⟨.hbm, 413, rfl⟩
abbrev main_v338 : Ref sig .tc := ⟨.hbm, 414, rfl⟩
abbrev main_v339 : Ref sig .tc := ⟨.hbm, 415, rfl⟩
abbrev main_v340 : Ref sig .tc := ⟨.hbm, 416, rfl⟩
abbrev main_v341 : Ref sig .tc := ⟨.hbm, 417, rfl⟩
abbrev main_c_52 : Ref sig .tc := ⟨.hbm, 418, rfl⟩
abbrev main_v342 : Ref sig .tc := ⟨.hbm, 419, rfl⟩
abbrev main_v343 : Ref sig .tc := ⟨.hbm, 420, rfl⟩
abbrev main_c_53 : Ref sig .tc := ⟨.hbm, 421, rfl⟩
abbrev main_v344 : Ref sig .tc := ⟨.hbm, 422, rfl⟩
abbrev main_v345 : Ref sig .tc := ⟨.hbm, 423, rfl⟩
abbrev main_v346 : Ref sig .tc := ⟨.hbm, 424, rfl⟩
abbrev main_c_54 : Ref sig .tc := ⟨.hbm, 425, rfl⟩
abbrev main_v347 : Ref sig .tc := ⟨.hbm, 426, rfl⟩
abbrev main_v348 : Ref sig .tc := ⟨.hbm, 427, rfl⟩
abbrev main_c_55 : Ref sig .tc := ⟨.hbm, 428, rfl⟩
abbrev main_v349 : Ref sig .tc := ⟨.hbm, 429, rfl⟩
abbrev main_v350 : Ref sig .tc := ⟨.hbm, 430, rfl⟩
abbrev main_v351 : Ref sig .tc := ⟨.hbm, 431, rfl⟩
abbrev main_c_56 : Ref sig .tc := ⟨.hbm, 432, rfl⟩
abbrev main_v352 : Ref sig .tc := ⟨.hbm, 433, rfl⟩
abbrev main_v353 : Ref sig .tc := ⟨.hbm, 434, rfl⟩
abbrev main_c_57 : Ref sig .tc := ⟨.hbm, 435, rfl⟩
abbrev main_v354 : Ref sig .tc := ⟨.hbm, 436, rfl⟩
abbrev main_v355 : Ref sig .tc := ⟨.hbm, 437, rfl⟩
abbrev main_v356 : Ref sig .tc := ⟨.hbm, 438, rfl⟩
abbrev main_c_58 : Ref sig .tc := ⟨.hbm, 439, rfl⟩
abbrev main_v357 : Ref sig .tc := ⟨.hbm, 440, rfl⟩
abbrev main_v358 : Ref sig .tc := ⟨.hbm, 441, rfl⟩
abbrev main_c_59 : Ref sig .tc := ⟨.hbm, 442, rfl⟩
abbrev main_v359 : Ref sig .tc := ⟨.hbm, 443, rfl⟩
abbrev main_v360 : Ref sig .tc := ⟨.hbm, 444, rfl⟩
abbrev main_v361 : Ref sig .tc := ⟨.hbm, 445, rfl⟩
abbrev main_v362 : Ref sig .tc := ⟨.hbm, 446, rfl⟩
abbrev main_v363 : Ref sig .tc := ⟨.hbm, 447, rfl⟩
abbrev main_v364 : Ref sig .tc := ⟨.hbm, 448, rfl⟩
abbrev main_v365 : Ref sig .tc := ⟨.hbm, 449, rfl⟩
abbrev main_v366 : Ref sig .tc := ⟨.hbm, 450, rfl⟩
abbrev main_v367 : Ref sig .tc := ⟨.hbm, 451, rfl⟩
abbrev main_v368 : Ref sig .tc := ⟨.hbm, 452, rfl⟩
abbrev main_v369 : Ref sig .tc := ⟨.hbm, 453, rfl⟩
abbrev main_v370 : Ref sig .tc := ⟨.hbm, 454, rfl⟩
abbrev main_v371 : Ref sig .tc := ⟨.hbm, 455, rfl⟩
abbrev main_v372 : Ref sig .tc := ⟨.hbm, 456, rfl⟩
abbrev main_v373 : Ref sig .tc := ⟨.hbm, 457, rfl⟩
abbrev main_v374 : Ref sig .tc := ⟨.hbm, 458, rfl⟩
abbrev main_v375 : Ref sig .tc := ⟨.hbm, 459, rfl⟩
abbrev main_v376 : Ref sig .tc := ⟨.hbm, 460, rfl⟩
abbrev main_v377 : Ref sig .tc := ⟨.hbm, 461, rfl⟩
abbrev main_v378 : Ref sig .tc := ⟨.hbm, 462, rfl⟩
abbrev main_v379 : Ref sig .tc := ⟨.hbm, 463, rfl⟩
abbrev main_v380 : Ref sig .tc := ⟨.hbm, 464, rfl⟩
abbrev main_v381 : Ref sig .tc := ⟨.hbm, 465, rfl⟩
abbrev main_c_60 : Ref sig .tc := ⟨.hbm, 466, rfl⟩
abbrev main_v382 : Ref sig .tc := ⟨.hbm, 467, rfl⟩
abbrev main_v383 : Ref sig .tc := ⟨.hbm, 468, rfl⟩
abbrev main_c_61 : Ref sig .tc := ⟨.hbm, 469, rfl⟩
abbrev main_v384 : Ref sig .tc := ⟨.hbm, 470, rfl⟩
abbrev main_v385 : Ref sig .tc := ⟨.hbm, 471, rfl⟩
abbrev main_v386 : Ref sig .tc := ⟨.hbm, 472, rfl⟩
abbrev main_c_62 : Ref sig .tc := ⟨.hbm, 473, rfl⟩
abbrev main_v387 : Ref sig .tc := ⟨.hbm, 474, rfl⟩
abbrev main_v388 : Ref sig .tc := ⟨.hbm, 475, rfl⟩
abbrev main_c_63 : Ref sig .tc := ⟨.hbm, 476, rfl⟩
abbrev main_v389 : Ref sig .tc := ⟨.hbm, 477, rfl⟩
abbrev main_v390 : Ref sig .tc := ⟨.hbm, 478, rfl⟩
abbrev main_v391 : Ref sig .tc := ⟨.hbm, 479, rfl⟩
abbrev main_c_64 : Ref sig .tc := ⟨.hbm, 480, rfl⟩
abbrev main_v392 : Ref sig .tc := ⟨.hbm, 481, rfl⟩
abbrev main_v393 : Ref sig .tc := ⟨.hbm, 482, rfl⟩
abbrev main_c_65 : Ref sig .tc := ⟨.hbm, 483, rfl⟩
abbrev main_v394 : Ref sig .tc := ⟨.hbm, 484, rfl⟩
abbrev main_v395 : Ref sig .tc := ⟨.hbm, 485, rfl⟩
abbrev main_v396 : Ref sig .tc := ⟨.hbm, 486, rfl⟩
abbrev main_c_66 : Ref sig .tc := ⟨.hbm, 487, rfl⟩
abbrev main_v397 : Ref sig .tc := ⟨.hbm, 488, rfl⟩
abbrev main_v398 : Ref sig .tc := ⟨.hbm, 489, rfl⟩
abbrev main_c_67 : Ref sig .tc := ⟨.hbm, 490, rfl⟩
abbrev main_v399 : Ref sig .tc := ⟨.hbm, 491, rfl⟩
abbrev main_v400 : Ref sig .tc := ⟨.hbm, 492, rfl⟩
abbrev main_v401 : Ref sig .tc := ⟨.hbm, 493, rfl⟩
abbrev main_v402 : Ref sig .tc := ⟨.hbm, 494, rfl⟩
abbrev main_v403 : Ref sig .tc := ⟨.hbm, 495, rfl⟩
abbrev main_v404 : Ref sig .tc := ⟨.hbm, 496, rfl⟩
abbrev main_v405 : Ref sig .tc := ⟨.hbm, 497, rfl⟩
abbrev main_v406 : Ref sig .tc := ⟨.hbm, 498, rfl⟩
abbrev main_v407 : Ref sig .tc := ⟨.hbm, 499, rfl⟩
abbrev main_v408 : Ref sig .tc := ⟨.hbm, 500, rfl⟩
abbrev main_v409 : Ref sig .tc := ⟨.hbm, 501, rfl⟩
abbrev main_v410 : Ref sig .tc := ⟨.hbm, 502, rfl⟩
abbrev main_v411 : Ref sig .tc := ⟨.hbm, 503, rfl⟩
abbrev main_v412 : Ref sig .tc := ⟨.hbm, 504, rfl⟩
abbrev main_v413 : Ref sig .tc := ⟨.hbm, 505, rfl⟩
abbrev main_v414 : Ref sig .tc := ⟨.hbm, 506, rfl⟩
abbrev main_c_68 : Ref sig .tc := ⟨.hbm, 507, rfl⟩
abbrev main_v415 : Ref sig .tc := ⟨.hbm, 508, rfl⟩
abbrev main_v416 : Ref sig .tc := ⟨.hbm, 509, rfl⟩
abbrev main_c_69 : Ref sig .tc := ⟨.hbm, 510, rfl⟩
abbrev main_v417 : Ref sig .tc := ⟨.hbm, 511, rfl⟩
abbrev main_v418 : Ref sig .tc := ⟨.hbm, 512, rfl⟩
abbrev main_v419 : Ref sig .tc := ⟨.hbm, 513, rfl⟩
abbrev main_c_70 : Ref sig .tc := ⟨.hbm, 514, rfl⟩
abbrev main_v420 : Ref sig .tc := ⟨.hbm, 515, rfl⟩
abbrev main_v421 : Ref sig .tc := ⟨.hbm, 516, rfl⟩
abbrev main_c_71 : Ref sig .tc := ⟨.hbm, 517, rfl⟩
abbrev main_v422 : Ref sig .tc := ⟨.hbm, 518, rfl⟩
abbrev main_v423 : Ref sig .tc := ⟨.hbm, 519, rfl⟩
abbrev main_v424 : Ref sig .tc := ⟨.hbm, 520, rfl⟩
abbrev main_c_72 : Ref sig .tc := ⟨.hbm, 521, rfl⟩
abbrev main_v425 : Ref sig .tc := ⟨.hbm, 522, rfl⟩
abbrev main_v426 : Ref sig .tc := ⟨.hbm, 523, rfl⟩
abbrev main_c_73 : Ref sig .tc := ⟨.hbm, 524, rfl⟩
abbrev main_v427 : Ref sig .tc := ⟨.hbm, 525, rfl⟩
abbrev main_v428 : Ref sig .tc := ⟨.hbm, 526, rfl⟩
abbrev main_v429 : Ref sig .tc := ⟨.hbm, 527, rfl⟩
abbrev main_c_74 : Ref sig .tc := ⟨.hbm, 528, rfl⟩
abbrev main_v430 : Ref sig .tc := ⟨.hbm, 529, rfl⟩
abbrev main_v431 : Ref sig .tc := ⟨.hbm, 530, rfl⟩
abbrev main_c_75 : Ref sig .tc := ⟨.hbm, 531, rfl⟩
abbrev main_v432 : Ref sig .tc := ⟨.hbm, 532, rfl⟩
abbrev main_v433 : Ref sig .tc := ⟨.hbm, 533, rfl⟩
abbrev main_v434 : Ref sig .tc := ⟨.hbm, 534, rfl⟩
abbrev main_v435 : Ref sig .tc := ⟨.hbm, 535, rfl⟩
abbrev main_v436 : Ref sig .tc := ⟨.hbm, 536, rfl⟩
abbrev main_v437 : Ref sig .tc := ⟨.hbm, 537, rfl⟩
abbrev main_v438 : Ref sig .tc := ⟨.hbm, 538, rfl⟩
abbrev main_v439 : Ref sig .tc := ⟨.hbm, 539, rfl⟩
abbrev main_v440 : Ref sig .tc := ⟨.hbm, 540, rfl⟩
abbrev main_v441 : Ref sig .tc := ⟨.hbm, 541, rfl⟩
abbrev main_v442 : Ref sig .tc := ⟨.hbm, 542, rfl⟩
abbrev main_v443 : Ref sig .tc := ⟨.hbm, 543, rfl⟩
abbrev main_v444 : Ref sig .tc := ⟨.hbm, 544, rfl⟩
abbrev main_v445 : Ref sig .tc := ⟨.hbm, 545, rfl⟩
abbrev main_cst_76 : Ref sig .tc := ⟨.hbm, 546, rfl⟩
abbrev main_v446 : Ref sig .tc := ⟨.hbm, 547, rfl⟩
abbrev main_v447 : Ref sig .tc := ⟨.hbm, 548, rfl⟩
abbrev main_v448 : Ref sig .tc := ⟨.hbm, 549, rfl⟩
abbrev main_v449 : Ref sig .tc := ⟨.hbm, 550, rfl⟩
abbrev main_v450 : Ref sig .tc := ⟨.hbm, 551, rfl⟩
abbrev main_v451 : Ref sig .tc := ⟨.hbm, 552, rfl⟩
abbrev main_v452 : Ref sig .tc := ⟨.hbm, 553, rfl⟩
abbrev main_v453 : Ref sig .tc := ⟨.hbm, 554, rfl⟩
abbrev main_v454 : Ref sig .tc := ⟨.hbm, 555, rfl⟩
abbrev main_v455 : Ref sig .tc := ⟨.hbm, 556, rfl⟩
abbrev main_v456 : Ref sig .tc := ⟨.hbm, 557, rfl⟩
abbrev main_c_77 : Ref sig .tc := ⟨.hbm, 558, rfl⟩
abbrev main_v457 : Ref sig .tc := ⟨.hbm, 559, rfl⟩
abbrev main_v458 : Ref sig .tc := ⟨.hbm, 560, rfl⟩
abbrev main_c_78 : Ref sig .tc := ⟨.hbm, 561, rfl⟩
abbrev main_v459 : Ref sig .tc := ⟨.hbm, 562, rfl⟩
abbrev main_v460 : Ref sig .tc := ⟨.hbm, 563, rfl⟩
abbrev main_v461 : Ref sig .tc := ⟨.hbm, 564, rfl⟩
abbrev main_c_79 : Ref sig .tc := ⟨.hbm, 565, rfl⟩
abbrev main_v462 : Ref sig .tc := ⟨.hbm, 566, rfl⟩
abbrev main_v463 : Ref sig .tc := ⟨.hbm, 567, rfl⟩
abbrev main_c_80 : Ref sig .tc := ⟨.hbm, 568, rfl⟩
abbrev main_v464 : Ref sig .tc := ⟨.hbm, 569, rfl⟩
abbrev main_v465 : Ref sig .tc := ⟨.hbm, 570, rfl⟩
abbrev main_v466 : Ref sig .tc := ⟨.hbm, 571, rfl⟩
abbrev main_c_81 : Ref sig .tc := ⟨.hbm, 572, rfl⟩
abbrev main_v467 : Ref sig .tc := ⟨.hbm, 573, rfl⟩
abbrev main_v468 : Ref sig .tc := ⟨.hbm, 574, rfl⟩
abbrev main_c_82 : Ref sig .tc := ⟨.hbm, 575, rfl⟩
abbrev main_v469 : Ref sig .tc := ⟨.hbm, 576, rfl⟩
abbrev main_v470 : Ref sig .tc := ⟨.hbm, 577, rfl⟩
abbrev main_v471 : Ref sig .tc := ⟨.hbm, 578, rfl⟩
abbrev main_c_83 : Ref sig .tc := ⟨.hbm, 579, rfl⟩
abbrev main_v472 : Ref sig .tc := ⟨.hbm, 580, rfl⟩
abbrev main_v473 : Ref sig .tc := ⟨.hbm, 581, rfl⟩
abbrev main_c_84 : Ref sig .tc := ⟨.hbm, 582, rfl⟩
abbrev main_v474 : Ref sig .tc := ⟨.hbm, 583, rfl⟩
abbrev main_v475 : Ref sig .tc := ⟨.hbm, 584, rfl⟩
abbrev main_v476 : Ref sig .tc := ⟨.hbm, 585, rfl⟩
abbrev main_v477 : Ref sig .tc := ⟨.hbm, 586, rfl⟩
abbrev main_v478 : Ref sig .tc := ⟨.hbm, 587, rfl⟩
abbrev main_v479 : Ref sig .tc := ⟨.hbm, 588, rfl⟩
abbrev main_v480 : Ref sig .tc := ⟨.hbm, 589, rfl⟩
abbrev main_v481 : Ref sig .tc := ⟨.hbm, 590, rfl⟩
abbrev main_v482 : Ref sig .tc := ⟨.hbm, 591, rfl⟩
abbrev main_v483 : Ref sig .tc := ⟨.hbm, 592, rfl⟩
abbrev main_v484 : Ref sig .tc := ⟨.hbm, 593, rfl⟩
abbrev main_v485 : Ref sig .tc := ⟨.hbm, 594, rfl⟩
abbrev main_v486 : Ref sig .tc := ⟨.hbm, 595, rfl⟩
abbrev main_v487 : Ref sig .tc := ⟨.hbm, 596, rfl⟩
abbrev main_v488 : Ref sig .tc := ⟨.hbm, 597, rfl⟩
abbrev main_v489 : Ref sig .tc := ⟨.hbm, 598, rfl⟩
abbrev main_c_85 : Ref sig .tc := ⟨.hbm, 599, rfl⟩
abbrev main_v490 : Ref sig .tc := ⟨.hbm, 600, rfl⟩
abbrev main_v491 : Ref sig .tc := ⟨.hbm, 601, rfl⟩
abbrev main_c_86 : Ref sig .tc := ⟨.hbm, 602, rfl⟩
abbrev main_v492 : Ref sig .tc := ⟨.hbm, 603, rfl⟩
abbrev main_v493 : Ref sig .tc := ⟨.hbm, 604, rfl⟩
abbrev main_v494 : Ref sig .tc := ⟨.hbm, 605, rfl⟩
abbrev main_c_87 : Ref sig .tc := ⟨.hbm, 606, rfl⟩
abbrev main_v495 : Ref sig .tc := ⟨.hbm, 607, rfl⟩
abbrev main_v496 : Ref sig .tc := ⟨.hbm, 608, rfl⟩
abbrev main_c_88 : Ref sig .tc := ⟨.hbm, 609, rfl⟩
abbrev main_v497 : Ref sig .tc := ⟨.hbm, 610, rfl⟩
abbrev main_v498 : Ref sig .tc := ⟨.hbm, 611, rfl⟩
abbrev main_v499 : Ref sig .tc := ⟨.hbm, 612, rfl⟩
abbrev main_c_89 : Ref sig .tc := ⟨.hbm, 613, rfl⟩
abbrev main_v500 : Ref sig .tc := ⟨.hbm, 614, rfl⟩
abbrev main_v501 : Ref sig .tc := ⟨.hbm, 615, rfl⟩
abbrev main_c_90 : Ref sig .tc := ⟨.hbm, 616, rfl⟩
abbrev main_v502 : Ref sig .tc := ⟨.hbm, 617, rfl⟩
abbrev main_v503 : Ref sig .tc := ⟨.hbm, 618, rfl⟩
abbrev main_v504 : Ref sig .tc := ⟨.hbm, 619, rfl⟩
abbrev main_c_91 : Ref sig .tc := ⟨.hbm, 620, rfl⟩
abbrev main_v505 : Ref sig .tc := ⟨.hbm, 621, rfl⟩
abbrev main_v506 : Ref sig .tc := ⟨.hbm, 622, rfl⟩
abbrev main_c_92 : Ref sig .tc := ⟨.hbm, 623, rfl⟩
abbrev main_v507 : Ref sig .tc := ⟨.hbm, 624, rfl⟩
abbrev main_v508 : Ref sig .tc := ⟨.hbm, 625, rfl⟩
abbrev main_v509 : Ref sig .tc := ⟨.hbm, 626, rfl⟩
abbrev main_v510 : Ref sig .tc := ⟨.hbm, 627, rfl⟩
abbrev main_v511 : Ref sig .tc := ⟨.hbm, 628, rfl⟩
abbrev main_v512 : Ref sig .tc := ⟨.hbm, 629, rfl⟩
abbrev main_v513 : Ref sig .tc := ⟨.hbm, 630, rfl⟩
abbrev main_v514 : Ref sig .tc := ⟨.hbm, 631, rfl⟩
abbrev main_v515 : Ref sig .tc := ⟨.hbm, 632, rfl⟩
abbrev main_v516 : Ref sig .tc := ⟨.hbm, 633, rfl⟩
abbrev main_v517 : Ref sig .tc := ⟨.hbm, 634, rfl⟩
abbrev main_v518 : Ref sig .tc := ⟨.hbm, 635, rfl⟩
abbrev main_v519 : Ref sig .tc := ⟨.hbm, 636, rfl⟩
abbrev main_v520 : Ref sig .tc := ⟨.hbm, 637, rfl⟩
abbrev main_v521 : Ref sig .tc := ⟨.hbm, 638, rfl⟩
abbrev main_v522 : Ref sig .tc := ⟨.hbm, 639, rfl⟩
abbrev main_v523 : Ref sig .tc := ⟨.hbm, 640, rfl⟩
abbrev main_v524 : Ref sig .tc := ⟨.hbm, 641, rfl⟩
abbrev main_v525 : Ref sig .tc := ⟨.hbm, 642, rfl⟩
abbrev main_v526 : Ref sig .tc := ⟨.hbm, 643, rfl⟩
abbrev main_v527 : Ref sig .tc := ⟨.hbm, 644, rfl⟩
abbrev main_v528 : Ref sig .tc := ⟨.hbm, 645, rfl⟩
abbrev main_v529 : Ref sig .tc := ⟨.hbm, 646, rfl⟩
abbrev main_c_93 : Ref sig .tc := ⟨.hbm, 647, rfl⟩
abbrev main_v530 : Ref sig .tc := ⟨.hbm, 648, rfl⟩
abbrev main_v531 : Ref sig .tc := ⟨.hbm, 649, rfl⟩
abbrev main_c_94 : Ref sig .tc := ⟨.hbm, 650, rfl⟩
abbrev main_v532 : Ref sig .tc := ⟨.hbm, 651, rfl⟩
abbrev main_v533 : Ref sig .tc := ⟨.hbm, 652, rfl⟩
abbrev main_v534 : Ref sig .tc := ⟨.hbm, 653, rfl⟩
abbrev main_c_95 : Ref sig .tc := ⟨.hbm, 654, rfl⟩
abbrev main_v535 : Ref sig .tc := ⟨.hbm, 655, rfl⟩
abbrev main_v536 : Ref sig .tc := ⟨.hbm, 656, rfl⟩
abbrev main_c_96 : Ref sig .tc := ⟨.hbm, 657, rfl⟩
abbrev main_v537 : Ref sig .tc := ⟨.hbm, 658, rfl⟩
abbrev main_v538 : Ref sig .tc := ⟨.hbm, 659, rfl⟩
abbrev main_v539 : Ref sig .tc := ⟨.hbm, 660, rfl⟩
abbrev main_c_97 : Ref sig .tc := ⟨.hbm, 661, rfl⟩
abbrev main_v540 : Ref sig .tc := ⟨.hbm, 662, rfl⟩
abbrev main_v541 : Ref sig .tc := ⟨.hbm, 663, rfl⟩
abbrev main_c_98 : Ref sig .tc := ⟨.hbm, 664, rfl⟩
abbrev main_v542 : Ref sig .tc := ⟨.hbm, 665, rfl⟩
abbrev main_v543 : Ref sig .tc := ⟨.hbm, 666, rfl⟩
abbrev main_v544 : Ref sig .tc := ⟨.hbm, 667, rfl⟩
abbrev main_c_99 : Ref sig .tc := ⟨.hbm, 668, rfl⟩
abbrev main_v545 : Ref sig .tc := ⟨.hbm, 669, rfl⟩
abbrev main_v546 : Ref sig .tc := ⟨.hbm, 670, rfl⟩
abbrev main_c_100 : Ref sig .tc := ⟨.hbm, 671, rfl⟩
abbrev main_v547 : Ref sig .tc := ⟨.hbm, 672, rfl⟩
abbrev main_v548 : Ref sig .tc := ⟨.hbm, 673, rfl⟩
abbrev main_v549 : Ref sig .tc := ⟨.hbm, 674, rfl⟩
abbrev main_v550 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_v554 : Ref sig .tc := ⟨.hbm, 679, rfl⟩
abbrev main_v555 : Ref sig .tc := ⟨.hbm, 680, rfl⟩
abbrev main_v556 : Ref sig .tc := ⟨.hbm, 681, rfl⟩
abbrev main_v557 : Ref sig .tc := ⟨.hbm, 682, rfl⟩
abbrev main_v558 : Ref sig .tc := ⟨.hbm, 683, rfl⟩
abbrev main_v559 : Ref sig .tc := ⟨.hbm, 684, rfl⟩
abbrev main_v560 : Ref sig .tc := ⟨.hbm, 685, rfl⟩
abbrev main_v561 : Ref sig .tc := ⟨.hbm, 686, rfl⟩
abbrev main_v562 : Ref sig .tc := ⟨.hbm, 687, rfl⟩
abbrev main_c_101 : Ref sig .tc := ⟨.hbm, 688, rfl⟩
abbrev main_v563 : Ref sig .tc := ⟨.hbm, 689, rfl⟩
abbrev main_v564 : Ref sig .tc := ⟨.hbm, 690, rfl⟩
abbrev main_c_102 : Ref sig .tc := ⟨.hbm, 691, rfl⟩
abbrev main_v565 : Ref sig .tc := ⟨.hbm, 692, rfl⟩
abbrev main_v566 : Ref sig .tc := ⟨.hbm, 693, rfl⟩
abbrev main_v567 : Ref sig .tc := ⟨.hbm, 694, rfl⟩
abbrev main_c_103 : Ref sig .tc := ⟨.hbm, 695, rfl⟩
abbrev main_v568 : Ref sig .tc := ⟨.hbm, 696, rfl⟩
abbrev main_v569 : Ref sig .tc := ⟨.hbm, 697, rfl⟩
abbrev main_c_104 : Ref sig .tc := ⟨.hbm, 698, rfl⟩
abbrev main_v570 : Ref sig .tc := ⟨.hbm, 699, rfl⟩
abbrev main_v571 : Ref sig .tc := ⟨.hbm, 700, rfl⟩
abbrev main_v572 : Ref sig .tc := ⟨.hbm, 701, rfl⟩
abbrev main_c_105 : Ref sig .tc := ⟨.hbm, 702, rfl⟩
abbrev main_v573 : Ref sig .tc := ⟨.hbm, 703, rfl⟩
abbrev main_v574 : Ref sig .tc := ⟨.hbm, 704, rfl⟩
abbrev main_c_106 : Ref sig .tc := ⟨.hbm, 705, rfl⟩
abbrev main_v575 : Ref sig .tc := ⟨.hbm, 706, rfl⟩
abbrev main_v576 : Ref sig .tc := ⟨.hbm, 707, rfl⟩
abbrev main_v577 : Ref sig .tc := ⟨.hbm, 708, rfl⟩
abbrev main_c_107 : Ref sig .tc := ⟨.hbm, 709, rfl⟩
abbrev main_v578 : Ref sig .tc := ⟨.hbm, 710, rfl⟩
abbrev main_v579 : Ref sig .tc := ⟨.hbm, 711, rfl⟩
abbrev main_c_108 : Ref sig .tc := ⟨.hbm, 712, rfl⟩
abbrev main_v580 : Ref sig .tc := ⟨.hbm, 713, rfl⟩
abbrev main_v581 : Ref sig .tc := ⟨.hbm, 714, rfl⟩
abbrev main_v582 : Ref sig .tc := ⟨.hbm, 715, rfl⟩
abbrev main_v583 : Ref sig .tc := ⟨.hbm, 716, rfl⟩
abbrev main_v584 : Ref sig .tc := ⟨.hbm, 717, rfl⟩
abbrev main_v585 : Ref sig .tc := ⟨.hbm, 718, rfl⟩
abbrev main_v586 : Ref sig .tc := ⟨.hbm, 719, rfl⟩
abbrev main_v587 : Ref sig .tc := ⟨.hbm, 720, rfl⟩
abbrev main_v588 : Ref sig .tc := ⟨.hbm, 721, rfl⟩
abbrev main_v589 : Ref sig .tc := ⟨.hbm, 722, rfl⟩
abbrev main_v590 : Ref sig .tc := ⟨.hbm, 723, rfl⟩
abbrev main_v591 : Ref sig .tc := ⟨.hbm, 724, rfl⟩
abbrev main_v592 : Ref sig .tc := ⟨.hbm, 725, rfl⟩
abbrev main_v593 : Ref sig .tc := ⟨.hbm, 726, rfl⟩
abbrev main_cst_109 : Ref sig .tc := ⟨.hbm, 727, rfl⟩
abbrev main_v594 : Ref sig .tc := ⟨.hbm, 728, rfl⟩
abbrev main_v595 : Ref sig .tc := ⟨.hbm, 729, rfl⟩
abbrev main_cst_110 : Ref sig .tc := ⟨.hbm, 730, rfl⟩
abbrev main_v596 : Ref sig .tc := ⟨.hbm, 731, rfl⟩
abbrev main_v597 : Ref sig .tc := ⟨.hbm, 732, rfl⟩
abbrev main_v598 : Ref sig .tc := ⟨.hbm, 733, rfl⟩
abbrev main_v599 : Ref sig .tc := ⟨.hbm, 734, rfl⟩
abbrev main_v600 : Ref sig .tc := ⟨.hbm, 735, rfl⟩
abbrev main_v601 : Ref sig .tc := ⟨.hbm, 736, rfl⟩
abbrev main_v602 : Ref sig .tc := ⟨.hbm, 737, rfl⟩
abbrev main_v603 : Ref sig .tc := ⟨.hbm, 738, rfl⟩
abbrev main_v604 : Ref sig .tc := ⟨.hbm, 739, rfl⟩
abbrev main_v605 : Ref sig .tc := ⟨.hbm, 740, rfl⟩
abbrev main_v606 : Ref sig .tc := ⟨.hbm, 741, rfl⟩
abbrev main_c_111 : Ref sig .tc := ⟨.hbm, 742, rfl⟩
abbrev main_v607 : Ref sig .tc := ⟨.hbm, 743, rfl⟩
abbrev main_v608 : Ref sig .tc := ⟨.hbm, 744, rfl⟩
abbrev main_c_112 : Ref sig .tc := ⟨.hbm, 745, rfl⟩
abbrev main_v609 : Ref sig .tc := ⟨.hbm, 746, rfl⟩
abbrev main_v610 : Ref sig .tc := ⟨.hbm, 747, rfl⟩
abbrev main_v611 : Ref sig .tc := ⟨.hbm, 748, rfl⟩
abbrev main_c_113 : Ref sig .tc := ⟨.hbm, 749, rfl⟩
abbrev main_v612 : Ref sig .tc := ⟨.hbm, 750, rfl⟩
abbrev main_v613 : Ref sig .tc := ⟨.hbm, 751, rfl⟩
abbrev main_c_114 : Ref sig .tc := ⟨.hbm, 752, rfl⟩
abbrev main_v614 : Ref sig .tc := ⟨.hbm, 753, rfl⟩
abbrev main_v615 : Ref sig .tc := ⟨.hbm, 754, rfl⟩
abbrev main_v616 : Ref sig .tc := ⟨.hbm, 755, rfl⟩
abbrev main_c_115 : Ref sig .tc := ⟨.hbm, 756, rfl⟩
abbrev main_v617 : Ref sig .tc := ⟨.hbm, 757, rfl⟩
abbrev main_v618 : Ref sig .tc := ⟨.hbm, 758, rfl⟩
abbrev main_c_116 : Ref sig .tc := ⟨.hbm, 759, rfl⟩
abbrev main_v619 : Ref sig .tc := ⟨.hbm, 760, rfl⟩
abbrev main_v620 : Ref sig .tc := ⟨.hbm, 761, rfl⟩
abbrev main_v621 : Ref sig .tc := ⟨.hbm, 762, rfl⟩
abbrev main_c_117 : Ref sig .tc := ⟨.hbm, 763, rfl⟩
abbrev main_v622 : Ref sig .tc := ⟨.hbm, 764, rfl⟩
abbrev main_v623 : Ref sig .tc := ⟨.hbm, 765, rfl⟩
abbrev main_c_118 : Ref sig .tc := ⟨.hbm, 766, rfl⟩
abbrev main_v624 : Ref sig .tc := ⟨.hbm, 767, rfl⟩
abbrev main_v625 : Ref sig .tc := ⟨.hbm, 768, rfl⟩
abbrev main_v626 : Ref sig .tc := ⟨.hbm, 769, rfl⟩
abbrev main_v627 : Ref sig .tc := ⟨.hbm, 770, rfl⟩
abbrev main_v628 : Ref sig .tc := ⟨.hbm, 771, rfl⟩
abbrev main_v629 : Ref sig .tc := ⟨.hbm, 772, rfl⟩
abbrev main_v630 : Ref sig .tc := ⟨.hbm, 773, rfl⟩
abbrev main_v631 : Ref sig .tc := ⟨.hbm, 774, rfl⟩
abbrev main_v632 : Ref sig .tc := ⟨.hbm, 775, rfl⟩
abbrev main_v633 : Ref sig .tc := ⟨.hbm, 776, rfl⟩
abbrev main_v634 : Ref sig .tc := ⟨.hbm, 777, rfl⟩
abbrev main_v635 : Ref sig .tc := ⟨.hbm, 778, rfl⟩
abbrev main_v636 : Ref sig .tc := ⟨.hbm, 779, rfl⟩
abbrev main_v637 : Ref sig .tc := ⟨.hbm, 780, rfl⟩
abbrev main_v638 : Ref sig .tc := ⟨.hbm, 781, rfl⟩
abbrev main_v639 : Ref sig .tc := ⟨.hbm, 782, rfl⟩
abbrev main_c_119 : Ref sig .tc := ⟨.hbm, 783, rfl⟩
abbrev main_v640 : Ref sig .tc := ⟨.hbm, 784, rfl⟩
abbrev main_v641 : Ref sig .tc := ⟨.hbm, 785, rfl⟩
abbrev main_c_120 : Ref sig .tc := ⟨.hbm, 786, rfl⟩
abbrev main_v642 : Ref sig .tc := ⟨.hbm, 787, rfl⟩
abbrev main_v643 : Ref sig .tc := ⟨.hbm, 788, rfl⟩
abbrev main_v644 : Ref sig .tc := ⟨.hbm, 789, rfl⟩
abbrev main_c_121 : Ref sig .tc := ⟨.hbm, 790, rfl⟩
abbrev main_v645 : Ref sig .tc := ⟨.hbm, 791, rfl⟩
abbrev main_v646 : Ref sig .tc := ⟨.hbm, 792, rfl⟩
abbrev main_c_122 : Ref sig .tc := ⟨.hbm, 793, rfl⟩
abbrev main_v647 : Ref sig .tc := ⟨.hbm, 794, rfl⟩
abbrev main_v648 : Ref sig .tc := ⟨.hbm, 795, rfl⟩
abbrev main_v649 : Ref sig .tc := ⟨.hbm, 796, rfl⟩
abbrev main_c_123 : Ref sig .tc := ⟨.hbm, 797, rfl⟩
abbrev main_v650 : Ref sig .tc := ⟨.hbm, 798, rfl⟩
abbrev main_v651 : Ref sig .tc := ⟨.hbm, 799, rfl⟩
abbrev main_c_124 : Ref sig .tc := ⟨.hbm, 800, rfl⟩
abbrev main_v652 : Ref sig .tc := ⟨.hbm, 801, rfl⟩
abbrev main_v653 : Ref sig .tc := ⟨.hbm, 802, rfl⟩
abbrev main_v654 : Ref sig .tc := ⟨.hbm, 803, rfl⟩
abbrev main_c_125 : Ref sig .tc := ⟨.hbm, 804, rfl⟩
abbrev main_v655 : Ref sig .tc := ⟨.hbm, 805, rfl⟩
abbrev main_v656 : Ref sig .tc := ⟨.hbm, 806, rfl⟩
abbrev main_c_126 : Ref sig .tc := ⟨.hbm, 807, rfl⟩
abbrev main_v657 : Ref sig .tc := ⟨.hbm, 808, rfl⟩
abbrev main_v658 : Ref sig .tc := ⟨.hbm, 809, rfl⟩
abbrev main_v659 : Ref sig .tc := ⟨.hbm, 810, rfl⟩
abbrev main_v660 : Ref sig .tc := ⟨.hbm, 811, rfl⟩
abbrev main_v661 : Ref sig .tc := ⟨.hbm, 812, rfl⟩
abbrev main_v662 : Ref sig .tc := ⟨.hbm, 813, rfl⟩
abbrev main_v663 : Ref sig .tc := ⟨.hbm, 814, rfl⟩
abbrev main_v664 : Ref sig .tc := ⟨.hbm, 815, rfl⟩
abbrev main_v665 : Ref sig .tc := ⟨.hbm, 816, rfl⟩
abbrev main_v666 : Ref sig .tc := ⟨.hbm, 817, rfl⟩
abbrev main_v667 : Ref sig .tc := ⟨.hbm, 818, rfl⟩
abbrev main_v668 : Ref sig .tc := ⟨.hbm, 819, rfl⟩
abbrev main_v669 : Ref sig .tc := ⟨.hbm, 820, rfl⟩
abbrev main_v670 : Ref sig .tc := ⟨.hbm, 821, rfl⟩
abbrev main_v671 : Ref sig .tc := ⟨.hbm, 822, rfl⟩
abbrev main_v672 : Ref sig .tc := ⟨.hbm, 823, rfl⟩
abbrev main_v673 : Ref sig .tc := ⟨.hbm, 824, rfl⟩
abbrev main_v674 : Ref sig .tc := ⟨.hbm, 825, rfl⟩
abbrev main_v675 : Ref sig .tc := ⟨.hbm, 826, rfl⟩
abbrev main_v676 : Ref sig .tc := ⟨.hbm, 827, rfl⟩
abbrev main_v677 : Ref sig .tc := ⟨.hbm, 828, rfl⟩
abbrev main_v678 : Ref sig .tc := ⟨.hbm, 829, rfl⟩
abbrev main_v679 : Ref sig .tc := ⟨.hbm, 830, rfl⟩
abbrev main_c_127 : Ref sig .tc := ⟨.hbm, 831, rfl⟩
abbrev main_v680 : Ref sig .tc := ⟨.hbm, 832, rfl⟩
abbrev main_v681 : Ref sig .tc := ⟨.hbm, 833, rfl⟩
abbrev main_c_128 : Ref sig .tc := ⟨.hbm, 834, rfl⟩
abbrev main_v682 : Ref sig .tc := ⟨.hbm, 835, rfl⟩
abbrev main_v683 : Ref sig .tc := ⟨.hbm, 836, rfl⟩
abbrev main_v684 : Ref sig .tc := ⟨.hbm, 837, rfl⟩
abbrev main_c_129 : Ref sig .tc := ⟨.hbm, 838, rfl⟩
abbrev main_v685 : Ref sig .tc := ⟨.hbm, 839, rfl⟩
abbrev main_v686 : Ref sig .tc := ⟨.hbm, 840, rfl⟩
abbrev main_c_130 : Ref sig .tc := ⟨.hbm, 841, rfl⟩
abbrev main_v687 : Ref sig .tc := ⟨.hbm, 842, rfl⟩
abbrev main_v688 : Ref sig .tc := ⟨.hbm, 843, rfl⟩
abbrev main_v689 : Ref sig .tc := ⟨.hbm, 844, rfl⟩
abbrev main_c_131 : Ref sig .tc := ⟨.hbm, 845, rfl⟩
abbrev main_v690 : Ref sig .tc := ⟨.hbm, 846, rfl⟩
abbrev main_v691 : Ref sig .tc := ⟨.hbm, 847, rfl⟩
abbrev main_c_132 : Ref sig .tc := ⟨.hbm, 848, rfl⟩
abbrev main_v692 : Ref sig .tc := ⟨.hbm, 849, rfl⟩
abbrev main_v693 : Ref sig .tc := ⟨.hbm, 850, rfl⟩
abbrev main_v694 : Ref sig .tc := ⟨.hbm, 851, rfl⟩
abbrev main_c_133 : Ref sig .tc := ⟨.hbm, 852, rfl⟩
abbrev main_v695 : Ref sig .tc := ⟨.hbm, 853, rfl⟩
abbrev main_v696 : Ref sig .tc := ⟨.hbm, 854, rfl⟩
abbrev main_c_134 : Ref sig .tc := ⟨.hbm, 855, rfl⟩
abbrev main_v697 : Ref sig .tc := ⟨.hbm, 856, rfl⟩
abbrev main_v698 : Ref sig .tc := ⟨.hbm, 857, rfl⟩
abbrev main_v699 : Ref sig .tc := ⟨.hbm, 858, rfl⟩
abbrev main_v700 : Ref sig .tc := ⟨.hbm, 859, rfl⟩
abbrev main_v701 : Ref sig .tc := ⟨.hbm, 860, rfl⟩
abbrev main_v702 : Ref sig .tc := ⟨.hbm, 861, rfl⟩
abbrev main_v703 : Ref sig .tc := ⟨.hbm, 862, rfl⟩
abbrev main_v704 : Ref sig .tc := ⟨.hbm, 863, rfl⟩
abbrev main_v705 : Ref sig .tc := ⟨.hbm, 864, rfl⟩
abbrev main_v706 : Ref sig .tc := ⟨.hbm, 865, rfl⟩
abbrev main_v707 : Ref sig .tc := ⟨.hbm, 866, rfl⟩
abbrev main_v708 : Ref sig .tc := ⟨.hbm, 867, rfl⟩
abbrev main_v709 : Ref sig .tc := ⟨.hbm, 868, rfl⟩
abbrev main_v710 : Ref sig .tc := ⟨.hbm, 869, rfl⟩
abbrev main_v711 : Ref sig .tc := ⟨.hbm, 870, rfl⟩
abbrev main_v712 : Ref sig .tc := ⟨.hbm, 871, rfl⟩
abbrev main_c_135 : Ref sig .tc := ⟨.hbm, 872, rfl⟩
abbrev main_v713 : Ref sig .tc := ⟨.hbm, 873, rfl⟩
abbrev main_v714 : Ref sig .tc := ⟨.hbm, 874, rfl⟩
abbrev main_c_136 : Ref sig .tc := ⟨.hbm, 875, rfl⟩
abbrev main_v715 : Ref sig .tc := ⟨.hbm, 876, rfl⟩
abbrev main_v716 : Ref sig .tc := ⟨.hbm, 877, rfl⟩
abbrev main_v717 : Ref sig .tc := ⟨.hbm, 878, rfl⟩
abbrev main_c_137 : Ref sig .tc := ⟨.hbm, 879, rfl⟩
abbrev main_v718 : Ref sig .tc := ⟨.hbm, 880, rfl⟩
abbrev main_v719 : Ref sig .tc := ⟨.hbm, 881, rfl⟩
abbrev main_c_138 : Ref sig .tc := ⟨.hbm, 882, rfl⟩
abbrev main_v720 : Ref sig .tc := ⟨.hbm, 883, rfl⟩
abbrev main_v721 : Ref sig .tc := ⟨.hbm, 884, rfl⟩
abbrev main_v722 : Ref sig .tc := ⟨.hbm, 885, rfl⟩
abbrev main_c_139 : Ref sig .tc := ⟨.hbm, 886, rfl⟩
abbrev main_v723 : Ref sig .tc := ⟨.hbm, 887, rfl⟩
abbrev main_v724 : Ref sig .tc := ⟨.hbm, 888, rfl⟩
abbrev main_c_140 : Ref sig .tc := ⟨.hbm, 889, rfl⟩
abbrev main_v725 : Ref sig .tc := ⟨.hbm, 890, rfl⟩
abbrev main_v726 : Ref sig .tc := ⟨.hbm, 891, rfl⟩
abbrev main_v727 : Ref sig .tc := ⟨.hbm, 892, rfl⟩
abbrev main_c_141 : Ref sig .tc := ⟨.hbm, 893, rfl⟩
abbrev main_v728 : Ref sig .tc := ⟨.hbm, 894, rfl⟩
abbrev main_v729 : Ref sig .tc := ⟨.hbm, 895, rfl⟩
abbrev main_c_142 : Ref sig .tc := ⟨.hbm, 896, rfl⟩
abbrev main_v730 : Ref sig .tc := ⟨.hbm, 897, rfl⟩
abbrev main_v731 : Ref sig .tc := ⟨.hbm, 898, rfl⟩
abbrev main_v732 : Ref sig .tc := ⟨.hbm, 899, rfl⟩
abbrev main_v733 : Ref sig .tc := ⟨.hbm, 900, rfl⟩
abbrev main_v734 : Ref sig .tc := ⟨.hbm, 901, rfl⟩
abbrev main_v735 : Ref sig .tc := ⟨.hbm, 902, rfl⟩
abbrev main_v736 : Ref sig .tc := ⟨.hbm, 903, rfl⟩
abbrev main_v737 : Ref sig .tc := ⟨.hbm, 904, rfl⟩
abbrev main_v738 : Ref sig .tc := ⟨.hbm, 905, rfl⟩
abbrev main_v739 : Ref sig .tc := ⟨.hbm, 906, rfl⟩
abbrev main_v740 : Ref sig .tc := ⟨.hbm, 907, rfl⟩
abbrev main_v741 : Ref sig .tc := ⟨.hbm, 908, rfl⟩
abbrev main_v742 : Ref sig .tc := ⟨.hbm, 909, rfl⟩
abbrev main_v743 : Ref sig .tc := ⟨.hbm, 910, rfl⟩
abbrev main_cst_143 : Ref sig .tc := ⟨.hbm, 911, rfl⟩
abbrev main_v744 : Ref sig .tc := ⟨.hbm, 912, rfl⟩
abbrev main_v745 : Ref sig .tc := ⟨.hbm, 913, rfl⟩
abbrev main_v746 : Ref sig .tc := ⟨.hbm, 914, rfl⟩
abbrev main_v747 : Ref sig .tc := ⟨.hbm, 915, rfl⟩
abbrev main_v748 : Ref sig .tc := ⟨.hbm, 916, rfl⟩
abbrev main_v749 : Ref sig .tc := ⟨.hbm, 917, rfl⟩
abbrev main_v750 : Ref sig .tc := ⟨.hbm, 918, rfl⟩
abbrev main_v751 : Ref sig .tc := ⟨.hbm, 919, rfl⟩
abbrev main_v752 : Ref sig .tc := ⟨.hbm, 920, rfl⟩
abbrev main_v753 : Ref sig .tc := ⟨.hbm, 921, rfl⟩
abbrev main_v754 : Ref sig .tc := ⟨.hbm, 922, rfl⟩
abbrev main_c_144 : Ref sig .tc := ⟨.hbm, 923, rfl⟩
abbrev main_v755 : Ref sig .tc := ⟨.hbm, 924, rfl⟩
abbrev main_v756 : Ref sig .tc := ⟨.hbm, 925, rfl⟩
abbrev main_c_145 : Ref sig .tc := ⟨.hbm, 926, rfl⟩
abbrev main_v757 : Ref sig .tc := ⟨.hbm, 927, rfl⟩
abbrev main_v758 : Ref sig .tc := ⟨.hbm, 928, rfl⟩
abbrev main_v759 : Ref sig .tc := ⟨.hbm, 929, rfl⟩
abbrev main_c_146 : Ref sig .tc := ⟨.hbm, 930, rfl⟩
abbrev main_v760 : Ref sig .tc := ⟨.hbm, 931, rfl⟩
abbrev main_v761 : Ref sig .tc := ⟨.hbm, 932, rfl⟩
abbrev main_c_147 : Ref sig .tc := ⟨.hbm, 933, rfl⟩
abbrev main_v762 : Ref sig .tc := ⟨.hbm, 934, rfl⟩
abbrev main_v763 : Ref sig .tc := ⟨.hbm, 935, rfl⟩
abbrev main_v764 : Ref sig .tc := ⟨.hbm, 936, rfl⟩
abbrev main_c_148 : Ref sig .tc := ⟨.hbm, 937, rfl⟩
abbrev main_v765 : Ref sig .tc := ⟨.hbm, 938, rfl⟩
abbrev main_v766 : Ref sig .tc := ⟨.hbm, 939, rfl⟩
abbrev main_c_149 : Ref sig .tc := ⟨.hbm, 940, rfl⟩
abbrev main_v767 : Ref sig .tc := ⟨.hbm, 941, rfl⟩
abbrev main_v768 : Ref sig .tc := ⟨.hbm, 942, rfl⟩
abbrev main_v769 : Ref sig .tc := ⟨.hbm, 943, rfl⟩
abbrev main_c_150 : Ref sig .tc := ⟨.hbm, 944, rfl⟩
abbrev main_v770 : Ref sig .tc := ⟨.hbm, 945, rfl⟩
abbrev main_v771 : Ref sig .tc := ⟨.hbm, 946, rfl⟩
abbrev main_c_151 : Ref sig .tc := ⟨.hbm, 947, rfl⟩
abbrev main_v772 : Ref sig .tc := ⟨.hbm, 948, rfl⟩
abbrev main_v773 : Ref sig .tc := ⟨.hbm, 949, rfl⟩
abbrev main_v774 : Ref sig .tc := ⟨.hbm, 950, rfl⟩
abbrev main_v775 : Ref sig .tc := ⟨.hbm, 951, rfl⟩
abbrev main_v776 : Ref sig .tc := ⟨.hbm, 952, rfl⟩
abbrev main_v777 : Ref sig .tc := ⟨.hbm, 953, rfl⟩
abbrev main_v778 : Ref sig .tc := ⟨.hbm, 954, rfl⟩
abbrev main_v779 : Ref sig .tc := ⟨.hbm, 955, rfl⟩
abbrev main_v780 : Ref sig .tc := ⟨.hbm, 956, rfl⟩
abbrev main_v781 : Ref sig .tc := ⟨.hbm, 957, rfl⟩
abbrev main_v782 : Ref sig .tc := ⟨.hbm, 958, rfl⟩
abbrev main_v783 : Ref sig .tc := ⟨.hbm, 959, rfl⟩
abbrev main_v784 : Ref sig .tc := ⟨.hbm, 960, rfl⟩
abbrev main_v785 : Ref sig .tc := ⟨.hbm, 961, rfl⟩
abbrev main_v786 : Ref sig .tc := ⟨.hbm, 962, rfl⟩
abbrev main_v787 : Ref sig .tc := ⟨.hbm, 963, rfl⟩
abbrev main_c_152 : Ref sig .tc := ⟨.hbm, 964, rfl⟩
abbrev main_v788 : Ref sig .tc := ⟨.hbm, 965, rfl⟩
abbrev main_v789 : Ref sig .tc := ⟨.hbm, 966, rfl⟩
abbrev main_c_153 : Ref sig .tc := ⟨.hbm, 967, rfl⟩
abbrev main_v790 : Ref sig .tc := ⟨.hbm, 968, rfl⟩
abbrev main_v791 : Ref sig .tc := ⟨.hbm, 969, rfl⟩
abbrev main_v792 : Ref sig .tc := ⟨.hbm, 970, rfl⟩
abbrev main_c_154 : Ref sig .tc := ⟨.hbm, 971, rfl⟩
abbrev main_v793 : Ref sig .tc := ⟨.hbm, 972, rfl⟩
abbrev main_v794 : Ref sig .tc := ⟨.hbm, 973, rfl⟩
abbrev main_c_155 : Ref sig .tc := ⟨.hbm, 974, rfl⟩
abbrev main_v795 : Ref sig .tc := ⟨.hbm, 975, rfl⟩
abbrev main_v796 : Ref sig .tc := ⟨.hbm, 976, rfl⟩
abbrev main_v797 : Ref sig .tc := ⟨.hbm, 977, rfl⟩
abbrev main_c_156 : Ref sig .tc := ⟨.hbm, 978, rfl⟩
abbrev main_v798 : Ref sig .tc := ⟨.hbm, 979, rfl⟩
abbrev main_v799 : Ref sig .tc := ⟨.hbm, 980, rfl⟩
abbrev main_c_157 : Ref sig .tc := ⟨.hbm, 981, rfl⟩
abbrev main_v800 : Ref sig .tc := ⟨.hbm, 982, rfl⟩
abbrev main_v801 : Ref sig .tc := ⟨.hbm, 983, rfl⟩
abbrev main_v802 : Ref sig .tc := ⟨.hbm, 984, rfl⟩
abbrev main_c_158 : Ref sig .tc := ⟨.hbm, 985, rfl⟩
abbrev main_v803 : Ref sig .tc := ⟨.hbm, 986, rfl⟩
abbrev main_v804 : Ref sig .tc := ⟨.hbm, 987, rfl⟩
abbrev main_c_159 : Ref sig .tc := ⟨.hbm, 988, rfl⟩
abbrev main_v805 : Ref sig .tc := ⟨.hbm, 989, rfl⟩
abbrev main_v806 : Ref sig .tc := ⟨.hbm, 990, rfl⟩
abbrev main_v807 : Ref sig .tc := ⟨.hbm, 991, rfl⟩
abbrev main_v808 : Ref sig .tc := ⟨.hbm, 992, rfl⟩
abbrev main_v809 : Ref sig .tc := ⟨.hbm, 993, rfl⟩
abbrev main_v810 : Ref sig .tc := ⟨.hbm, 994, rfl⟩
abbrev main_v811 : Ref sig .tc := ⟨.hbm, 995, rfl⟩
abbrev main_v812 : Ref sig .tc := ⟨.hbm, 996, rfl⟩
abbrev main_v813 : Ref sig .tc := ⟨.hbm, 997, rfl⟩
abbrev main_v814 : Ref sig .tc := ⟨.hbm, 998, rfl⟩
abbrev main_v815 : Ref sig .tc := ⟨.hbm, 999, rfl⟩
abbrev main_v816 : Ref sig .tc := ⟨.hbm, 1000, rfl⟩
abbrev main_v817 : Ref sig .tc := ⟨.hbm, 1001, rfl⟩
abbrev main_v818 : Ref sig .tc := ⟨.hbm, 1002, rfl⟩
abbrev main_v819 : Ref sig .tc := ⟨.hbm, 1003, rfl⟩
abbrev main_v820 : Ref sig .tc := ⟨.hbm, 1004, rfl⟩
abbrev main_v821 : Ref sig .tc := ⟨.hbm, 1005, rfl⟩
abbrev main_v822 : Ref sig .tc := ⟨.hbm, 1006, rfl⟩
abbrev main_v823 : Ref sig .tc := ⟨.hbm, 1007, rfl⟩
abbrev main_v824 : Ref sig .tc := ⟨.hbm, 1008, rfl⟩
abbrev main_v825 : Ref sig .tc := ⟨.hbm, 1009, rfl⟩
abbrev main_v826 : Ref sig .tc := ⟨.hbm, 1010, rfl⟩
abbrev main_v827 : Ref sig .tc := ⟨.hbm, 1011, rfl⟩
abbrev main_c_160 : Ref sig .tc := ⟨.hbm, 1012, rfl⟩
abbrev main_v828 : Ref sig .tc := ⟨.hbm, 1013, rfl⟩
abbrev main_v829 : Ref sig .tc := ⟨.hbm, 1014, rfl⟩
abbrev main_c_161 : Ref sig .tc := ⟨.hbm, 1015, rfl⟩
abbrev main_v830 : Ref sig .tc := ⟨.hbm, 1016, rfl⟩
abbrev main_v831 : Ref sig .tc := ⟨.hbm, 1017, rfl⟩
abbrev main_v832 : Ref sig .tc := ⟨.hbm, 1018, rfl⟩
abbrev main_c_162 : Ref sig .tc := ⟨.hbm, 1019, rfl⟩
abbrev main_v833 : Ref sig .tc := ⟨.hbm, 1020, rfl⟩
abbrev main_v834 : Ref sig .tc := ⟨.hbm, 1021, rfl⟩
abbrev main_c_163 : Ref sig .tc := ⟨.hbm, 1022, rfl⟩
abbrev main_v835 : Ref sig .tc := ⟨.hbm, 1023, rfl⟩
abbrev main_v836 : Ref sig .tc := ⟨.hbm, 1024, rfl⟩
abbrev main_v837 : Ref sig .tc := ⟨.hbm, 1025, rfl⟩
abbrev main_c_164 : Ref sig .tc := ⟨.hbm, 1026, rfl⟩
abbrev main_v838 : Ref sig .tc := ⟨.hbm, 1027, rfl⟩
abbrev main_v839 : Ref sig .tc := ⟨.hbm, 1028, rfl⟩
abbrev main_c_165 : Ref sig .tc := ⟨.hbm, 1029, rfl⟩
abbrev main_v840 : Ref sig .tc := ⟨.hbm, 1030, rfl⟩
abbrev main_v841 : Ref sig .tc := ⟨.hbm, 1031, rfl⟩
abbrev main_v842 : Ref sig .tc := ⟨.hbm, 1032, rfl⟩
abbrev main_c_166 : Ref sig .tc := ⟨.hbm, 1033, rfl⟩
abbrev main_v843 : Ref sig .tc := ⟨.hbm, 1034, rfl⟩
abbrev main_v844 : Ref sig .tc := ⟨.hbm, 1035, rfl⟩
abbrev main_c_167 : Ref sig .tc := ⟨.hbm, 1036, rfl⟩
abbrev main_v845 : Ref sig .tc := ⟨.hbm, 1037, rfl⟩
abbrev main_v846 : Ref sig .tc := ⟨.hbm, 1038, rfl⟩
abbrev main_v847 : Ref sig .tc := ⟨.hbm, 1039, rfl⟩
abbrev main_v848 : Ref sig .tc := ⟨.hbm, 1040, rfl⟩
abbrev main_v849 : Ref sig .tc := ⟨.hbm, 1041, rfl⟩
abbrev main_v850 : Ref sig .tc := ⟨.hbm, 1042, rfl⟩
abbrev main_v851 : Ref sig .tc := ⟨.hbm, 1043, rfl⟩
abbrev main_v852 : Ref sig .tc := ⟨.hbm, 1044, rfl⟩
abbrev main_v853 : Ref sig .tc := ⟨.hbm, 1045, rfl⟩
abbrev main_v854 : Ref sig .tc := ⟨.hbm, 1046, rfl⟩
abbrev main_v855 : Ref sig .tc := ⟨.hbm, 1047, rfl⟩
abbrev main_v856 : Ref sig .tc := ⟨.hbm, 1048, rfl⟩
abbrev main_v857 : Ref sig .tc := ⟨.hbm, 1049, rfl⟩
abbrev main_v858 : Ref sig .tc := ⟨.hbm, 1050, rfl⟩
abbrev main_v859 : Ref sig .tc := ⟨.hbm, 1051, rfl⟩
abbrev main_v860 : Ref sig .tc := ⟨.hbm, 1052, rfl⟩
abbrev main_c_168 : Ref sig .tc := ⟨.hbm, 1053, rfl⟩
abbrev main_v861 : Ref sig .tc := ⟨.hbm, 1054, rfl⟩
abbrev main_v862 : Ref sig .tc := ⟨.hbm, 1055, rfl⟩
abbrev main_c_169 : Ref sig .tc := ⟨.hbm, 1056, rfl⟩
abbrev main_v863 : Ref sig .tc := ⟨.hbm, 1057, rfl⟩
abbrev main_v864 : Ref sig .tc := ⟨.hbm, 1058, rfl⟩
abbrev main_v865 : Ref sig .tc := ⟨.hbm, 1059, rfl⟩
abbrev main_c_170 : Ref sig .tc := ⟨.hbm, 1060, rfl⟩
abbrev main_v866 : Ref sig .tc := ⟨.hbm, 1061, rfl⟩
abbrev main_v867 : Ref sig .tc := ⟨.hbm, 1062, rfl⟩
abbrev main_c_171 : Ref sig .tc := ⟨.hbm, 1063, rfl⟩
abbrev main_v868 : Ref sig .tc := ⟨.hbm, 1064, rfl⟩
abbrev main_v869 : Ref sig .tc := ⟨.hbm, 1065, rfl⟩
abbrev main_v870 : Ref sig .tc := ⟨.hbm, 1066, rfl⟩
abbrev main_c_172 : Ref sig .tc := ⟨.hbm, 1067, rfl⟩
abbrev main_v871 : Ref sig .tc := ⟨.hbm, 1068, rfl⟩
abbrev main_v872 : Ref sig .tc := ⟨.hbm, 1069, rfl⟩
abbrev main_c_173 : Ref sig .tc := ⟨.hbm, 1070, rfl⟩
abbrev main_v873 : Ref sig .tc := ⟨.hbm, 1071, rfl⟩
abbrev main_v874 : Ref sig .tc := ⟨.hbm, 1072, rfl⟩
abbrev main_v875 : Ref sig .tc := ⟨.hbm, 1073, rfl⟩
abbrev main_c_174 : Ref sig .tc := ⟨.hbm, 1074, rfl⟩
abbrev main_v876 : Ref sig .tc := ⟨.hbm, 1075, rfl⟩
abbrev main_v877 : Ref sig .tc := ⟨.hbm, 1076, rfl⟩
abbrev main_c_175 : Ref sig .tc := ⟨.hbm, 1077, rfl⟩
abbrev main_v878 : Ref sig .tc := ⟨.hbm, 1078, rfl⟩
abbrev main_v879 : Ref sig .tc := ⟨.hbm, 1079, rfl⟩
abbrev main_v880 : Ref sig .tc := ⟨.hbm, 1080, rfl⟩
abbrev main_v881 : Ref sig .tc := ⟨.hbm, 1081, rfl⟩
abbrev main_v882 : Ref sig .tc := ⟨.hbm, 1082, rfl⟩
abbrev main_v883 : Ref sig .tc := ⟨.hbm, 1083, rfl⟩
abbrev main_v884 : Ref sig .tc := ⟨.hbm, 1084, rfl⟩
abbrev main_v885 : Ref sig .tc := ⟨.hbm, 1085, rfl⟩
abbrev main_v886 : Ref sig .tc := ⟨.hbm, 1086, rfl⟩
abbrev main_v887 : Ref sig .tc := ⟨.hbm, 1087, rfl⟩
abbrev main_v888 : Ref sig .tc := ⟨.hbm, 1088, rfl⟩
abbrev main_v889 : Ref sig .tc := ⟨.hbm, 1089, rfl⟩
abbrev main_v890 : Ref sig .tc := ⟨.hbm, 1090, rfl⟩
abbrev main_v891 : Ref sig .tc := ⟨.hbm, 1091, rfl⟩
abbrev main_cst_176 : Ref sig .tc := ⟨.hbm, 1092, rfl⟩
abbrev main_v892 : Ref sig .tc := ⟨.hbm, 1093, rfl⟩
abbrev main_v893 : Ref sig .tc := ⟨.hbm, 1094, rfl⟩
abbrev main_v894 : Ref sig .tc := ⟨.hbm, 1095, rfl⟩

abbrev nD : Nat := 1
abbrev τ : Topo := Topo.v7x

variable {F : FTy → Type} [FloatOps F]
-- ==== Proof.Grid.lean ====
module

public import Idealize.ShloMosaic.Lib.Pointwise
public import Idealize.ShloMosaic.Lib.IdealHost

/-! The bilateral grid's mathematics over the extended reals: cells and bins, the splat as a double sum, the five-tap
    sum along an axis, the tent sum as a two-point interpolation, and the trilinear interpolation as eight corners. -/

@[expose] public section

set_option maxRecDepth 16384

noncomputable section

namespace Bilateral

open Idealize.ShloMosaic

/-! ## Cells -/

/-- The nearest cell of pixel `i`: `i / 8` rounded, ties to even. -/
def cell (i : ℕ) : ℕ := (i + 3 + i / 8 % 2) / 8

/-- Rounding `i / 8` half to even gives the cell. -/
theorem roundHalfEven_eighth (i : ℕ) : Ideal.roundHalfEven ((i : ℝ) / 8) = (cell i : ℤ) := by
  have hf : ⌊(i : ℝ) / 8⌋ = ((i / 8 : ℕ) : ℤ) := by
    rw [Int.floor_eq_iff, Int.cast_natCast]
    have h1 : ((8 * (i / 8) + i % 8 : ℕ) : ℝ) = i := by exact_mod_cast Nat.div_add_mod i 8
    have h2 : ((i % 8 : ℕ) : ℝ) < 8 := by exact_mod_cast Nat.mod_lt i (by norm_num)
    have h3 : (0 : ℝ) ≤ ((i % 8 : ℕ) : ℝ) := by positivity
    push_cast at h1
    constructor <;> linarith
  have hr : (i : ℝ) / 8 - ((i / 8 : ℕ) : ℝ) = ((i % 8 : ℕ) : ℝ) / 8 := by
    have h1 : ((8 * (i / 8) + i % 8 : ℕ) : ℝ) = i := by exact_mod_cast Nat.div_add_mod i 8
    push_cast at h1 ⊢
    linarith
  have hlt : ((i % 8 : ℕ) : ℝ) / 8 < 1 / 2 ↔ i % 8 < 4 := by
    rw [div_lt_div_iff₀ (by norm_num) (by norm_num)]
    constructor <;> intro h
    · have : i % 8 * 2 < 1 * 8 := by exact_mod_cast h
      omega
    · have : i % 8 * 2 < 1 * 8 := by omega
      exact_mod_cast this
  have hgt : 1 / 2 < ((i % 8 : ℕ) : ℝ) / 8 ↔ 4 < i % 8 := by
    rw [div_lt_div_iff₀ (by norm_num) (by norm_num)]
    constructor <;> intro h
    · have : 1 * 8 < i % 8 * 2 := by exact_mod_cast h
      omega
    · have : 1 * 8 < i % 8 * 2 := by omega
      exact_mod_cast this
  unfold Ideal.roundHalfEven cell
  simp only [hf, Int.cast_natCast, hr, hlt, hgt, Int.even_coe_nat, Nat.even_iff]
  split_ifs <;> omega

/-- A pixel's cell lies among the 129 of its axis. -/
theorem cell_le (i : ℕ) (h : i < 1024) : cell i ≤ 128 := by unfold cell; omega

/-- A tile of 128 pixels shifts its cells by 16. -/
theorem cell_tile (t k : ℕ) : cell (128 * t + k) = 16 * t + cell k := by unfold cell; omega

/-- A tile's rows use 17 local cells. -/
theorem cell_tile_le (k : ℕ) (h : k < 128) : cell k < 17 := by unfold cell; omega

/-! ## Splat -/

/-- The splat of `v`: cell `(y, x)` receives every pixel whose nearest cell it is. -/
def splat (v : Fin 1024 → Fin 1024 → EReal) (y x : ℕ) : EReal :=
  ∑ i : Fin 1024, ∑ j : Fin 1024, if cell i = y ∧ cell j = x then v i j else 0

/-- The sum over the 136 stacked rows is the sum over tiles and local rows. -/
theorem sum_136 (f : ℕ → EReal) : ∑ c : Fin 136, f c = ∑ t : Fin 8, ∑ l : Fin 17, f (17 * t + l) := by
  rw [← Fintype.sum_prod_type', ← Equiv.sum_comp (finProdFinEquiv (m := 8) (n := 17)) (fun c : Fin 136 => f c)]
  exact Finset.sum_congr rfl fun p _ => by simp [finProdFinEquiv, add_comm]

/-- The sum over the 1024 rows is the sum over tiles and their rows. -/
theorem sum_1024 (f : ℕ → EReal) : ∑ i : Fin 1024, f i = ∑ t : Fin 8, ∑ k : Fin 128, f (128 * t + k) := by
  rw [← Fintype.sum_prod_type', ← Equiv.sum_comp (finProdFinEquiv (m := 8) (n := 128)) (fun c : Fin 1024 => f c)]
  exact Finset.sum_congr rfl fun p _ => by simp [finProdFinEquiv, add_comm]

/-- Only the local row `cell k` of tile `t` takes part, at the grid row `16 t + cell k`. -/
theorem sum_local (y t k : ℕ) (hk : k < 128) (a : EReal) :
    (∑ l : Fin 17, if y = 16 * t + l then (if cell k = l then a else 0) else 0) = if cell (128 * t + k) = y then a else 0 := by
  rw [Finset.sum_eq_single (⟨cell k, cell_tile_le k hk⟩ : Fin 17)]
  · rw [cell_tile]; simp [eq_comm]
  · intro l _ hl
    rw [if_neg (c := cell k = l) fun h => hl (Fin.ext h.symm), ite_self]
  · simp

/-- The tiled splat: the tiles' rows summed into local cells, the columns into cells, the shared cells added, is the splat. -/
theorem tiled_splat (v : ℕ → ℕ → EReal) (y x : ℕ) :
    (∑ c : Fin 136, if y = c.val - c.val / 17 then (∑ j : Fin 1024, if cell j = x then
        (∑ k : Fin 128, if cell k = c.val % 17 then v (128 * (c.val / 17) + k) j else 0) else 0) else 0)
      = splat (fun i j => v i j) y x := by
  rw [sum_136 (fun c => if y = c - c / 17 then (∑ j : Fin 1024, if cell j = x then
        (∑ k : Fin 128, if cell k = c % 17 then v (128 * (c / 17) + k) j else 0) else 0) else 0)]
  have hA : ∀ t : Fin 8, (∑ l : Fin 17, if y = (17 * t.val + l) - (17 * t.val + l) / 17 then (∑ j : Fin 1024, if cell j = x then
        (∑ k : Fin 128, if cell k = (17 * t.val + l) % 17 then v (128 * ((17 * t.val + l) / 17) + k) j else 0) else 0) else 0)
      = ∑ k : Fin 128, ∑ j : Fin 1024, if cell (128 * t.val + k) = y ∧ cell j = x then v (128 * t.val + k) j else 0 := by
    intro t
    have hl : ∀ l : Fin 17, (if y = (17 * t.val + l) - (17 * t.val + l) / 17 then (∑ j : Fin 1024, if cell j = x then
        (∑ k : Fin 128, if cell k = (17 * t.val + l) % 17 then v (128 * ((17 * t.val + l) / 17) + k) j else 0) else 0) else 0)
        = ∑ k : Fin 128, ∑ j : Fin 1024, if y = 16 * t.val + l then (if cell k = l then (if cell j = x then v (128 * t.val + k) j else 0) else 0) else 0 := by
      intro l
      have hd : (17 * t.val + l) / 17 = t := by omega
      have hm : (17 * t.val + l) % 17 = l := by omega
      have hs : 17 * t.val + l - t = 16 * t.val + l := by omega
      rw [hd, hm, hs, Finset.sum_comm]
      by_cases hy : y = 16 * t.val + l
      · simp only [if_pos hy]
        refine Finset.sum_congr rfl fun j _ => ?_
        by_cases hx : cell j = x
        · simp only [if_pos hx]
        · simp only [if_neg hx, ite_self, Finset.sum_const_zero]
      · simp only [if_neg hy, Finset.sum_const_zero]
    rw [Finset.sum_congr rfl fun l _ => hl l, Finset.sum_comm]
    refine Finset.sum_congr rfl fun k _ => ?_
    rw [Finset.sum_comm]
    refine Finset.sum_congr rfl fun j _ => ?_
    rw [sum_local y t k k.isLt]
    simp only [ite_and]
  rw [Finset.sum_congr rfl fun t _ => hA t]
  unfold splat
  rw [sum_1024 (fun i => ∑ j : Fin 1024, if cell i = y ∧ cell j = x then v i j else 0)]

/-! ## Blur -/

/-- The five-tap sum at place `y` of a row of `n` cells, zeros beyond its ends. -/
def taps5 (n : ℕ) (k : Fin 5 → EReal) (g : ℕ → EReal) (y : ℕ) : EReal :=
  k 0 * (if y < 2 then 0 else g (y - 2)) + k 1 * (if y < 1 then 0 else g (y - 1)) + k 2 * g y
    + k 3 * (if y + 1 < n then g (y + 1) else 0) + k 4 * (if y + 2 < n then g (y + 2) else 0)

/-- The same five products, the centre first. -/
theorem taps5_centre (n : ℕ) (k : Fin 5 → EReal) (g : ℕ → EReal) (y : ℕ) :
    k 2 * g y + k 0 * (if y < 2 then 0 else g (y - 2)) + k 1 * (if y < 1 then 0 else g (y - 1))
      + k 3 * (if y + 1 < n then g (y + 1) else 0) + k 4 * (if y + 2 < n then g (y + 2) else 0) = taps5 n k g y := by
  unfold taps5
  congr 2
  rw [add_assoc, add_comm]

/-- The blur of a grid `z, y, x` along y, then x, then z. -/
def blur (ks kr : Fin 5 → EReal) (g : ℕ → ℕ → ℕ → EReal) (z y x : ℕ) : EReal :=
  taps5 17 kr (fun z => taps5 129 ks (fun x => taps5 129 ks (fun y => g z y x) y) x) z

/-! ## Slice -/

/-- The point at fraction `t` between `a` and `b`. -/
def lerp (t : ℝ) (a b : EReal) : EReal := ((1 - t : ℝ) : EReal) * a + (t : EReal) * b

/-- The tent weights at `f` pick the two neighbours of `f`. -/
theorem tent_sum (n : ℕ) (f : ℝ) (h0 : 0 ≤ f) (hn : ⌊f⌋₊ + 1 < n) (v : ℕ → EReal) :
    ∑ q : Fin n, ((max 0 (1 - |f - (q.val : ℝ)|) : ℝ) : EReal) * v q = lerp (f - ⌊f⌋₊) (v ⌊f⌋₊) (v (⌊f⌋₊ + 1)) := by
  rw [Fin.sum_univ_eq_sum_range (fun q : ℕ => ((max 0 (1 - |f - (q : ℝ)|) : ℝ) : EReal) * v q) n]
  have hle : (⌊f⌋₊ : ℝ) ≤ f := Nat.floor_le h0
  have hlt : f < ⌊f⌋₊ + 1 := Nat.lt_floor_add_one f
  rw [Finset.sum_eq_add (⌊f⌋₊) (⌊f⌋₊ + 1) (by omega)]
  · unfold lerp
    congr 3
    · rw [abs_of_nonneg (by linarith), max_eq_right (by linarith)]
    · push_cast
      rw [abs_of_nonpos (by linarith), max_eq_right (by linarith)]; ring
  · intro q _ hq
    have : (1 : ℝ) ≤ |f - q| := by
      rcases lt_trichotomy q ⌊f⌋₊ with h | h | h
      · have : (q : ℝ) + 1 ≤ ⌊f⌋₊ := by exact_mod_cast h
        rw [abs_of_nonneg (by linarith)]; linarith
      · exact absurd h hq.1
      · have h' : ⌊f⌋₊ + 2 ≤ q := by have := hq.2; omega
        have : (⌊f⌋₊ : ℝ) + 2 ≤ q := by exact_mod_cast h'
        rw [abs_of_nonpos (by linarith)]; linarith
    rw [max_eq_left (by linarith), EReal.coe_zero, zero_mul]
  · intro h; exact absurd (Finset.mem_range.mpr (by omega)) h
  · intro h; exact absurd (Finset.mem_range.mpr hn) h

/-- A nonnegative real distributes over a sum of extended reals. -/
theorem coe_mul_add {c : ℝ} (hc : 0 ≤ c) (a b : EReal) : (c : EReal) * (a + b) = c * a + c * b :=
  EReal.left_distrib_of_nonneg_of_ne_top (by exact_mod_cast hc) (EReal.coe_ne_top c) a b

/-- Interpolation along y, x and z in turn is the sum of the eight weighted corners. -/
theorem lerp_corners {ty tx tz : ℝ} (hx0 : 0 ≤ tx) (hx1 : tx ≤ 1) (hz0 : 0 ≤ tz) (hz1 : tz ≤ 1)
    (g : Fin 2 → Fin 2 → Fin 2 → EReal) :
    lerp tz (lerp tx (lerp ty (g 0 0 0) (g 1 0 0)) (lerp ty (g 0 1 0) (g 1 1 0)))
        (lerp tx (lerp ty (g 0 0 1) (g 1 0 1)) (lerp ty (g 0 1 1) (g 1 1 1)))
      = ((1 - ty : ℝ) : EReal) * ((1 - tx : ℝ) : EReal) * ((1 - tz : ℝ) : EReal) * g 0 0 0
        + ((1 - ty : ℝ) : EReal) * ((1 - tx : ℝ) : EReal) * (tz : EReal) * g 0 0 1
        + ((1 - ty : ℝ) : EReal) * (tx : EReal) * ((1 - tz : ℝ) : EReal) * g 0 1 0
        + ((1 - ty : ℝ) : EReal) * (tx : EReal) * (tz : EReal) * g 0 1 1
        + (ty : EReal) * ((1 - tx : ℝ) : EReal) * ((1 - tz : ℝ) : EReal) * g 1 0 0
        + (ty : EReal) * ((1 - tx : ℝ) : EReal) * (tz : EReal) * g 1 0 1
        + (ty : EReal) * (tx : EReal) * ((1 - tz : ℝ) : EReal) * g 1 1 0
        + (ty : EReal) * (tx : EReal) * (tz : EReal) * g 1 1 1 := by
  have hx1' : 0 ≤ 1 - tx := by linarith
  have hz1' : 0 ≤ 1 - tz := by linarith
  have hc : ∀ a b c w : EReal, a * (b * (c * w)) = c * b * a * w := fun a b c w => by
    rw [mul_comm c b, mul_comm (b * c) a, mul_assoc, mul_assoc]
  unfold lerp
  simp only [coe_mul_add hx0, coe_mul_add hx1', coe_mul_add hz0, coe_mul_add hz1', hc]
  ac_rfl

end Bilateral

end
-- ==== Proof.Scalars.lean ====
module

public import proofs.«01_k».proof.Proof.Grid

/-! Scalars at the ideal values: coordinates as reals, truth values as zero and one, the literals, the tent weight,
    a pixel's bin and a pixel's level. -/

@[expose] public section

set_option maxRecDepth 16384

noncomputable section

namespace Bilateral

open Idealize.ShloMosaic

/-- The f32 pattern of each bin number 0, …, 16. -/
def binBits : Fin 17 → BitVec 32 :=
  ![0x00000000#32, 0x3F800000#32, 0x40000000#32, 0x40400000#32, 0x40800000#32, 0x40A00000#32, 0x40C00000#32,
    0x40E00000#32, 0x41000000#32, 0x41100000#32, 0x41200000#32, 0x41300000#32, 0x41400000#32, 0x41500000#32,
    0x41600000#32, 0x41700000#32, 0x41800000#32]

/-- Those patterns denote the bin numbers. -/
theorem ofBits_bin (z : Fin 17) : Ideal.ofBits .f32 (binBits z) = ((z.val : ℝ) : EReal) := by
  fin_cases z <;> simp [binBits, Ideal.ofBits, Ideal.ieee, -EReal.coe_mul] <;> norm_num

/-- The f32 pattern of 8. -/
theorem ofBits_eight : Ideal.ofBits .f32 0x41000000#32 = ((8 : ℝ) : EReal) := by
  exact_mod_cast ofBits_bin 8

/-- The f32 pattern of 15. -/
theorem ofBits_fifteen : Ideal.ofBits .f32 0x41700000#32 = ((15 : ℝ) : EReal) := by
  exact_mod_cast ofBits_bin 15

/-- The f32 pattern of 17. -/
theorem ofBits_seventeen : Ideal.ofBits .f32 0x41880000#32 = ((17 : ℝ) : EReal) := by
  simp [Ideal.ofBits, Ideal.ieee, -EReal.coe_mul]; norm_num

/-- A word made of a natural number reads back as that number. -/
theorem toInt_ofNat (n : ℕ) (h : n < 2 ^ 31) : (BitVec.ofNat 32 n).toInt = n := by
  rw [BitVec.toInt_eq_toNat_of_lt] <;> rw [BitVec.toNat_ofNat] <;> omega

/-- A coordinate converted to a float is that number. -/
theorem sitofp_nat (n : ℕ) (h : n < 2 ^ 31) : (FloatOps.sitofp FTy.f32 (BitVec.ofNat 32 n) : Ideal .f32) = ((n : ℝ) : EReal) := by
  show (((BitVec.ofNat 32 n).toInt : ℝ) : EReal) = _
  rw [toInt_ofNat n h, Int.cast_natCast]

/-- A truth value converted to a float is zero or one. -/
theorem sitofp_bool (b : Bool) :
    (FloatOps.sitofp FTy.f32 (BitVec.setWidth 32 (BitVec.ofBool b)) : Ideal .f32) = if b = true then (1 : EReal) else 0 := by
  show (((BitVec.setWidth 32 (BitVec.ofBool b)).toInt : ℝ) : EReal) = _
  cases b <;> simp

/-- A natural number converted to a word is that word. -/
theorem fptosi_nat (n : ℕ) (h : n < 2 ^ 31) : Ideal.fptosi 32 ((n : ℝ) : EReal) = BitVec.ofNat 32 n := by
  rw [Ideal.fptosi, Ideal.toIntClamped_coe, if_pos (by positivity), Int.floor_natCast]
  rw [show max (-((2 ^ (32 - 1) : ℕ) : ℤ)) (min (((2 ^ (32 - 1) : ℕ) : ℤ) - 1) (n : ℤ)) = (n : ℤ) by
    push_cast; omega]
  exact BitVec.ofInt_natCast 32 n

/-- Division of reals. -/
theorem div_real (a b : ℝ) (hb : b ≠ 0) : Ideal.div ((a : ℝ) : EReal) ((b : ℝ) : EReal) = ((a / b : ℝ) : EReal) := by
  rw [Ideal.div_coe hb, ← EReal.coe_mul]; congr 1; ring

/-- Equality of two naturals as extended reals. -/
theorem coe_nat_eq (a b : ℕ) : (((a : ℝ) : EReal) = ((b : ℝ) : EReal)) ↔ a = b := by
  rw [EReal.coe_eq_coe_iff]; exact Nat.cast_inj

/-- The tent weight `max 0 (1 - |a - b|)` of reals. -/
theorem tent_real (a b : ℝ) :
    max (0 : EReal) (1 - (FloatOps.absf (F := Ideal) (φ := .f32) (((a : ℝ) : EReal) - ((b : ℝ) : EReal)) : EReal))
      = ((max 0 (1 - |a - b|) : ℝ) : EReal) := by
  show max (0 : EReal) (1 - max (((a : ℝ) : EReal) - ((b : ℝ) : EReal)) (-(((a : ℝ) : EReal) - ((b : ℝ) : EReal)))) = _
  rw [← EReal.coe_sub, ← EReal.coe_neg, ← EReal.coe_one, ← EReal.coe_zero, ← EReal.coe_strictMono.monotone.map_max,
    ← EReal.coe_sub, ← EReal.coe_strictMono.monotone.map_max]
  rfl

/-! ## A pixel's bin -/

/-- Rounding and clipping to `[0, 15]` gives a whole number, at the infinities too. -/
theorem exists_bin (e : EReal) : ∃ b : ℕ, b ≤ 15 ∧
    min ((15 : ℝ) : EReal) (max 0 (Ideal.liftRound Ideal.roundHalfEven e)) = ((b : ℝ) : EReal) := by
  induction e with
  | bot => exact ⟨0, by norm_num, by simp⟩
  | top => exact ⟨15, le_rfl, by simp⟩
  | coe r =>
    refine ⟨(min 15 (max 0 (Ideal.roundHalfEven r))).toNat, by omega, ?_⟩
    have h : (((min 15 (max 0 (Ideal.roundHalfEven r))).toNat : ℕ) : ℤ) = min 15 (max 0 (Ideal.roundHalfEven r)) :=
      Int.toNat_of_nonneg (by omega)
    rw [← Int.cast_natCast, h, Ideal.liftRound_coe, ← EReal.coe_zero, ← EReal.coe_strictMono.monotone.map_max,
      ← EReal.coe_strictMono.monotone.map_min]
    push_cast
    rfl

/-- A pixel's bin: fifteen times the pixel, rounded, clipped to `0, …, 15`. -/
def bin (p : EReal) : ℕ := (exists_bin (p * ((15 : ℝ) : EReal))).choose

/-- A bin is at most 15. -/
theorem bin_le (p : EReal) : bin p ≤ 15 := (exists_bin (p * ((15 : ℝ) : EReal))).choose_spec.1

/-- A bin is the rounded `15 · pixel`, clipped. -/
theorem bin_eq (p : EReal) :
    min ((15 : ℝ) : EReal) (max 0 (Ideal.liftRound Ideal.roundHalfEven (p * ((15 : ℝ) : EReal)))) = ((bin p : ℝ) : EReal) :=
  (exists_bin (p * ((15 : ℝ) : EReal))).choose_spec.2

/-! ## A pixel's level -/

/-- Clipping to `[0, 15]` gives a real number, at the infinities too. -/
theorem exists_level (e : EReal) : ∃ r : ℝ, (0 ≤ r ∧ r ≤ 15) ∧ min ((15 : ℝ) : EReal) (max 0 e) = ((r : ℝ) : EReal) := by
  induction e with
  | bot => exact ⟨0, by norm_num, by simp⟩
  | top => exact ⟨15, by norm_num, by simp⟩
  | coe r =>
    refine ⟨min 15 (max 0 r), ⟨by positivity, min_le_left _ _⟩, ?_⟩
    rw [← EReal.coe_zero, ← EReal.coe_strictMono.monotone.map_max, ← EReal.coe_strictMono.monotone.map_min]

/-- A pixel's level: fifteen times the pixel, clipped to `[0, 15]`. -/
def level (p : EReal) : ℝ := (exists_level (p * ((15 : ℝ) : EReal))).choose

/-- A level is not negative. -/
theorem level_nonneg (p : EReal) : 0 ≤ level p := (exists_level (p * ((15 : ℝ) : EReal))).choose_spec.1.1

/-- A level is at most 15. -/
theorem level_le (p : EReal) : level p ≤ 15 := (exists_level (p * ((15 : ℝ) : EReal))).choose_spec.1.2

/-- A level is `15 · pixel`, clipped. -/
theorem level_eq (p : EReal) : min ((15 : ℝ) : EReal) (max 0 (p * ((15 : ℝ) : EReal))) = ((level p : ℝ) : EReal) :=
  (exists_level (p * ((15 : ℝ) : EReal))).choose_spec.2

/-- A level's lower bin is at most 15. -/
theorem floor_level_le (p : EReal) : ⌊level p⌋₊ ≤ 15 := by
  have := Nat.floor_mono (level_le p)
  rwa [show (15 : ℝ) = ((15 : ℕ) : ℝ) by norm_num, Nat.floor_natCast] at this

/-- The floor of `i / 8` is the whole-number quotient. -/
theorem floor_eighth (i : ℕ) : ⌊(i : ℝ) / 8⌋₊ = i / 8 := by
  have h1 : ((8 * (i / 8) + i % 8 : ℕ) : ℝ) = i := by exact_mod_cast Nat.div_add_mod i 8
  have h2 : ((i % 8 : ℕ) : ℝ) < 8 := by exact_mod_cast Nat.mod_lt i (by norm_num)
  have h3 : (0 : ℝ) ≤ ((i % 8 : ℕ) : ℝ) := by positivity
  rw [Nat.floor_eq_iff (by positivity)]
  push_cast at h1
  constructor <;> linarith

/-! ## The filter's specification -/

/-- The grid of one image's values `v`: the splat, bin by bin, of the pixels of that bin. -/
def grid (q : Fin 1024 → Fin 1024 → ℕ) (v : Fin 1024 → Fin 1024 → EReal) (z y x : ℕ) : EReal :=
  splat (fun i j => if q i j = z then v i j else 0) y x

/-- The trilinear interpolation of a grid at pixel `(i, j)` and level `f`. -/
def slice (g : ℕ → ℕ → ℕ → EReal) (f : ℝ) (i j : ℕ) : EReal :=
  let plane := fun z => lerp ((j : ℝ) / 8 - (j / 8 : ℕ)) (lerp ((i : ℝ) / 8 - (i / 8 : ℕ)) (g z (i / 8) (j / 8)) (g z (i / 8 + 1) (j / 8)))
    (lerp ((i : ℝ) / 8 - (i / 8 : ℕ)) (g z (i / 8) (j / 8 + 1)) (g z (i / 8 + 1) (j / 8 + 1)))
  lerp (f - ⌊f⌋₊) (plane ⌊f⌋₊) (plane (⌊f⌋₊ + 1))

/-- The filtered image at pixel `(i, j)`. -/
def filtered (ks kr : Fin 5 → EReal) (x : Fin 1024 → Fin 1024 → EReal) (i j : Fin 1024) : EReal :=
  Ideal.div (slice (blur ks kr (grid (fun i j => bin (x i j)) x)) (level (x i j)) i j)
    (slice (blur ks kr (grid (fun i j => bin (x i j)) fun _ _ => 1)) (level (x i j)) i j + Ideal.ofBits .f32 0x322BCC77#32)

end Bilateral

end
-- ==== Proof.KernelForm.lean ====
module

public import proofs.«01_k».proof.Proof.Gen.KernelIdeal.Value
public import proofs.«01_k».proof.Proof.Scalars

/-! What the kernel body stores, written as a few regular functions: one plane of the splat per bin, the blur of
    a whole grid, one stripe of the output. The stored pieces of the run are these functions by definition. -/

@[expose] public section

set_option maxRecDepth 16384

noncomputable section

namespace Cert.KernelIdeal.Form

open Cert.KernelIdeal Cert.KernelIdeal.Gen Idealize.ShloMosaic Idealize.ShloMosaic.TcCoe Idealize.SL.Sem
open Bilateral (binBits)

variable {F : FTy → Type} [FloatOps F]

local notation "Pix" => FVec F S1024x1024 FTy.f32
local notation "Grid3" => FVec F S17x129x129 FTy.f32
local notation "Band" => FVec F S128x1024 FTy.f32

/-! ## Splat -/

/-- Each pixel's bin: the rounded `15 · pixel`, clipped to `[0, 15]`. -/
def bins (x : Vec F S1x1024x1024 .f32) : Pix := k0_pay8 (k0_pay7 x) (Scalar.ofBits .f32 0x00000000#32)

/-- One where a pixel's bin is `z`, zero elsewhere. -/
def mask (q : Pix) (z : Fin 17) : Pix :=
  sitofp .f32 (extui 32 (cmpf .oeq q (broadcast S1024x1024 (Scalar.ofBits .f32 (binBits z)))) natLt_1_32)

/-- Tile `t` lies inside the image. -/
theorem slices_tile (t : Fin 8) : S1024x1024.Slices ![128 * t.val, 0] S128x1024 := by revert t; decide

/-- The row sums of tile `t` (128 image rows) into its 17 local cells. -/
def tile (v : Pix) (t : Fin 8) : FVec F S17x1024 .f32 :=
  matmul dot_S17x128_S128x1024_S17x1024_1_0_0_1_n_n none k0_pay5
    (extractStridedSlice S128x1024 ![128 * t.val, 0] v (slices_tile t)) (constant S17x1024 .f32 0x00000000#32)

/-- The eight tiles' row sums, one under the other. -/
def tiles (v : Pix) : FVec F S136x1024 .f32 :=
  concatenate S136x1024 0 (List.ofFn fun t : Fin 8 => ⟨S17x1024, tile v t⟩)
    concatenates_S17x1024_S17x1024_S17x1024_S17x1024_S17x1024_S17x1024_S17x1024_S17x1024_S136x1024_d0

/-- One bin's plane of the splat of `v`: rows summed by tile, columns summed, tiles' shared cells added. -/
def plane (v : Pix) : FVec F S1x129x129 .f32 :=
  shapeCast S1x129x129
    (matmul dot_S129x136_S136x129_S129x129_1_0_0_1_n_n none k0_pay6
      (matmul dot_S136x1024_S1024x129_S136x129_1_0_0_1_n_n none (tiles v) k0_pay3 (constant S136x129 .f32 0x00000000#32))
      (constant S129x129 .f32 0x00000000#32))
    shapeCasts_S129x129_S1x129x129

/-- Plane `z` lies inside the grid. -/
theorem inb_plane (z : Fin 17) : ∀ a, (![z.val, 0, 0] : Fin 3 → Nat) a + S1x129x129.size a ≤ S17x129x129.size a := by
  revert z; decide

/-- The splat's pieces as stored, last first: the zero plane of bin 16, then `P z` at bins 15, …, 0. -/
def splatPieces (P : Fin 17 → FVec F S1x129x129 .f32) : List (View.Piece (Elt F) S17x129x129 .f32) :=
  ⟨Rect.unit ![16, 0, 0] S1x129x129.size inb_S17x129x129_S1x129x129_16_0_0, k0_pay141⟩ ::
    List.ofFn fun k : Fin 16 =>
      ⟨Rect.unit ![(k.rev.castSucc).val, 0, 0] S1x129x129.size (inb_plane k.rev.castSucc), P k.rev.castSucc⟩

/-- The image's splat at bin `z`. -/
def valPlane (x : Vec F S1x1024x1024 .f32) (z : Fin 17) : FVec F S1x129x129 .f32 :=
  plane (mulf (k0_pay2 x) (mask (bins x) z))

/-- The counts' splat at bin `z`. -/
def wtPlane (x : Vec F S1x1024x1024 .f32) (z : Fin 17) : FVec F S1x129x129 .f32 := plane (mask (bins x) z)

/-! ## Blur -/

/-- The sum of a grid and its four shifted copies with the taps `k`, in the kernel's order. -/
def taps (k : Fin 5 → F .f32) (a d2 d1 u1 u2 : Grid3) : Grid3 :=
  addf (addf (addf (addf (mulf (broadcast S17x129x129 (k 2)) a) (mulf (broadcast S17x129x129 (k 0)) d2))
    (mulf (broadcast S17x129x129 (k 1)) d1)) (mulf (broadcast S17x129x129 (k 3)) u1)) (mulf (broadcast S17x129x129 (k 4)) u2)

/-- The blur along y (axis 1). -/
def blurY (k : Fin 5 → F .f32) (a : Grid3) : Grid3 :=
  taps k a
    (concatenate S17x129x129 1 [⟨S17x2x129, broadcast S17x2x129 (Scalar.ofBits .f32 0x00000000#32)⟩,
      ⟨S17x127x129, extractStridedSlice S17x127x129 ![0, 0, 0] a slices_S17x129x129_o0_0_0_S17x127x129⟩]
      concatenates_S17x2x129_S17x127x129_S17x129x129_d1)
    (concatenate S17x129x129 1 [⟨S17x1x129, broadcast S17x1x129 (Scalar.ofBits .f32 0x00000000#32)⟩,
      ⟨S17x128x129, extractStridedSlice S17x128x129 ![0, 0, 0] a slices_S17x129x129_o0_0_0_S17x128x129⟩]
      concatenates_S17x1x129_S17x128x129_S17x129x129_d1)
    (concatenate S17x129x129 1 [⟨S17x128x129, extractStridedSlice S17x128x129 ![0, 1, 0] a slices_S17x129x129_o0_1_0_S17x128x129⟩,
      ⟨S17x1x129, broadcast S17x1x129 (Scalar.ofBits .f32 0x00000000#32)⟩] concatenates_S17x128x129_S17x1x129_S17x129x129_d1)
    (concatenate S17x129x129 1 [⟨S17x127x129, extractStridedSlice S17x127x129 ![0, 2, 0] a slices_S17x129x129_o0_2_0_S17x127x129⟩,
      ⟨S17x2x129, broadcast S17x2x129 (Scalar.ofBits .f32 0x00000000#32)⟩] concatenates_S17x127x129_S17x2x129_S17x129x129_d1)

/-- The blur along x (axis 2). -/
def blurX (k : Fin 5 → F .f32) (a : Grid3) : Grid3 :=
  taps k a
    (concatenate S17x129x129 2 [⟨S17x129x2, broadcast S17x129x2 (Scalar.ofBits .f32 0x00000000#32)⟩,
      ⟨S17x129x127, extractStridedSlice S17x129x127 ![0, 0, 0] a slices_S17x129x129_o0_0_0_S17x129x127⟩]
      concatenates_S17x129x2_S17x129x127_S17x129x129_d2)
    (concatenate S17x129x129 2 [⟨S17x129x1, broadcast S17x129x1 (Scalar.ofBits .f32 0x00000000#32)⟩,
      ⟨S17x129x128, extractStridedSlice S17x129x128 ![0, 0, 0] a slices_S17x129x129_o0_0_0_S17x129x128⟩]
      concatenates_S17x129x1_S17x129x128_S17x129x129_d2)
    (concatenate S17x129x129 2 [⟨S17x129x128, extractStridedSlice S17x129x128 ![0, 0, 1] a slices_S17x129x129_o0_0_1_S17x129x128⟩,
      ⟨S17x129x1, broadcast S17x129x1 (Scalar.ofBits .f32 0x00000000#32)⟩] concatenates_S17x129x128_S17x129x1_S17x129x129_d2)
    (concatenate S17x129x129 2 [⟨S17x129x127, extractStridedSlice S17x129x127 ![0, 0, 2] a slices_S17x129x129_o0_0_2_S17x129x127⟩,
      ⟨S17x129x2, broadcast S17x129x2 (Scalar.ofBits .f32 0x00000000#32)⟩] concatenates_S17x129x127_S17x129x2_S17x129x129_d2)

/-- The blur along z (axis 0). -/
def blurZ (k : Fin 5 → F .f32) (a : Grid3) : Grid3 :=
  taps k a
    (concatenate S17x129x129 0 [⟨S2x129x129, broadcast S2x129x129 (Scalar.ofBits .f32 0x00000000#32)⟩,
      ⟨S15x129x129, extractStridedSlice S15x129x129 ![0, 0, 0] a slices_S17x129x129_o0_0_0_S15x129x129⟩]
      concatenates_S2x129x129_S15x129x129_S17x129x129_d0)
    (concatenate S17x129x129 0 [⟨S1x129x129, broadcast S1x129x129 (Scalar.ofBits .f32 0x00000000#32)⟩,
      ⟨S16x129x129, extractStridedSlice S16x129x129 ![0, 0, 0] a slices_S17x129x129_o0_0_0_S16x129x129⟩]
      concatenates_S1x129x129_S16x129x129_S17x129x129_d0)
    (concatenate S17x129x129 0 [⟨S16x129x129, extractStridedSlice S16x129x129 ![1, 0, 0] a slices_S17x129x129_o1_0_0_S16x129x129⟩,
      ⟨S1x129x129, broadcast S1x129x129 (Scalar.ofBits .f32 0x00000000#32)⟩] concatenates_S16x129x129_S1x129x129_S17x129x129_d0)
    (concatenate S17x129x129 0 [⟨S15x129x129, extractStridedSlice S15x129x129 ![2, 0, 0] a slices_S17x129x129_o2_0_0_S15x129x129⟩,
      ⟨S2x129x129, broadcast S2x129x129 (Scalar.ofBits .f32 0x00000000#32)⟩] concatenates_S15x129x129_S2x129x129_S17x129x129_d0)

/-- The blur along y, then x, then z. -/
def blur (ks kr : Fin 5 → F .f32) (a : Grid3) : Grid3 :=
  shapeCast S17x129x129 (blurZ kr (blurX ks (blurY ks a))) shapeCasts_S17x129x129_S17x129x129

/-! ## Slice -/

/-- The y interpolation of each bin's 17 grid rows to the stripe's 128 rows, bins one under the other. -/
def rows (g : Fin 17 → Vec F S1x17x129 .f32) : FVec F S2176x129 .f32 :=
  concatenate S2176x129 0 (List.ofFn fun z : Fin 17 => ⟨S128x129,
      matmul dot_S128x17_S17x129_S128x129_1_0_0_1_n_n none (k0_pay155 k0_pay153 k0_pay154)
        (shapeCast S17x129 (g z) shapeCasts_S1x17x129_S17x129) (constant S128x129 .f32 0x00000000#32)⟩)
    concatenates_S128x129_S128x129_S128x129_S128x129_S128x129_S128x129_S128x129_S128x129_S128x129_S128x129_S128x129_S128x129_S128x129_S128x129_S128x129_S128x129_S128x129_S2176x129_d0

/-- The y and x interpolation of every bin. -/
def planes (g : Fin 17 → Vec F S1x17x129 .f32) : FVec F S2176x1024 .f32 :=
  k0_pay188 (k0_pay156 k0_pay4) (k0_pay157 k0_pay4) (rows g)

/-- The tent weight of bin `z`: `max 0 (1 - |f - z|)`. -/
def tent (f : Band) (z : Fin 17) : Band :=
  maximumf (broadcast S128x1024 (Scalar.ofBits .f32 0x00000000#32))
    (subf (broadcast S128x1024 (Scalar.ofBits .f32 0x3F800000#32))
      (absf (subf f (broadcast S128x1024 (Scalar.ofBits .f32 (binBits z))))))

/-- Bin `z`'s rows lie inside the stacked planes. -/
theorem slices_bin (z : Fin 17) : S2176x1024.Slices ![128 * z.val, 0] S128x1024 := by revert z; decide

/-- The sum over the bins of tent weight times interpolated plane. -/
def across (f : Band) (v : FVec F S2176x1024 .f32) : Band :=
  (List.ofFn fun z : Fin 17 => mulf (tent f z) (extractStridedSlice S128x1024 ![128 * z.val, 0] v (slices_bin z))).foldl addf
    (broadcast S128x1024 (Scalar.ofBits .f32 0x00000000#32))

/-- One stripe of the output from its image rows and the two grids' rows. -/
def stripe (x : Vec F S1x128x1024 .f32) (gv gw : Fin 17 → Vec F S1x17x129 .f32) : FVec F S1x128x1024 .f32 :=
  shapeCast S1x128x1024
    (divf (across (k0_pay158 x) (planes gv))
      (addf (across (k0_pay158 x) (planes gw)) (broadcast S128x1024 (Scalar.ofBits .f32 0x322BCC77#32))))
    shapeCasts_S128x1024_S1x128x1024

/-! ## The run's pieces are these -/

/-- Stripe `s` lies inside the image. -/
theorem inb_rows (s : Fin 8) : ∀ a, (![0, 128 * s.val, 0] : Fin 3 → Nat) a + S1x128x1024.size a ≤ S1x1024x1024.size a := by
  revert s; decide

/-- Stripe `s`'s rows of bin `z` lie inside the grid. -/
theorem inb_cells (s : Fin 8) (z : Fin 17) :
    ∀ a, (![z.val, 16 * s.val, 0] : Fin 3 → Nat) a + S1x17x129.size a ≤ S17x129x129.size a := by
  revert s z; decide

variable (c : Dev nD) (i : grid0.Coords) (arg1 : Memref sig .tc .vmem S1x1024x1024 .f32) (harg1 : arg1.IsWhole) (arg2 : Memref sig .tc .smem S5 .f32) (harg2 : arg2.IsWhole) (arg3 : Memref sig .tc .smem S5 .f32) (harg3 : arg3.IsWhole) (arg4 : Memref sig .tc .vmem S1x1024x1024 .f32) (harg4 : arg4.IsWhole) (arg5 : Memref sig .tc .vmem S17x129x129 .f32) (harg5 : arg5.IsWhole) (arg6 : Memref sig .tc .vmem S17x129x129 .f32) (harg6 : arg6.IsWhole)
    (x0 : Vec F S1x1024x1024 .f32) (x1 : Vec F S5 .f32) (x2 : Vec F S5 .f32)

/-- The image block as the body loads it. -/
def image : Vec F S1x1024x1024 .f32 :=
  View.readAt (Elt F) arg1.view (Rect.unit ![0, 0, 0] S1x1024x1024.size inb_S1x1024x1024_S1x1024x1024_0_0_0).toLoadRect (harg1.unread x0)

/-- The splat of the image, as stored. -/
theorem splat_val : kernelRun0_A.sl.HS0_17 c arg1 harg1 x0 = splatPieces (valPlane (image arg1 harg1 x0)) := rfl

/-- The splat of the counts, as stored. -/
theorem splat_wt : kernelRun0_A.sl.HS1_17 c arg1 harg1 x0 = splatPieces (wtPlane (image arg1 harg1 x0)) := rfl

/-- The image's grid as the blur loads it. -/
def splatVal : Vec F S17x129x129 .f32 :=
  arg5.view.readCov (splatPieces (valPlane (image arg1 harg1 x0)))
    (Rect.unit ![0, 0, 0] S17x129x129.size inb_S17x129x129_S17x129x129_0_0_0).toLoadRect

/-- The counts' grid as the blur loads it. -/
def splatWt : Vec F S17x129x129 .f32 :=
  arg6.view.readCov (splatPieces (wtPlane (image arg1 harg1 x0)))
    (Rect.unit ![0, 0, 0] S17x129x129.size inb_S17x129x129_S17x129x129_0_0_0).toLoadRect

/-- Tap `k` lies inside its buffer. -/
theorem inb_tap (k : Fin 5) : ∀ a, (![k.val] : Fin 1 → Nat) a + S1.size a ≤ S5.size a := by revert k; decide

/-- A tap's load is not empty. -/
theorem numel_tap (k : Fin 5) : 0 < (Rect.unit (s := S5) ![k.val] S1.size (inb_tap k)).shape.numel := by revert k; decide

/-- The five taps a filter's buffer holds, as loaded. -/
def tapsOf (arg : Memref sig .tc .smem S5 .f32) (harg : arg.IsWhole) (y : Vec F S5 .f32) (k : Fin 5) : F .f32 :=
  View.readAt (Elt F) arg.view (Rect.unit (s := S5) ![k.val] S1.size (inb_tap k)).toLoadRect (harg.unread y) (Shape.Idx.first (numel_tap k))

/-- The pieces of a grid once its blur is stored over its splat. -/
def blurPieces (L : List (View.Piece (Elt F) S17x129x129 .f32)) (g : Vec F S17x129x129 .f32) :
    List (View.Piece (Elt F) S17x129x129 .f32) :=
  ⟨Rect.unit ![0, 0, 0] S17x129x129.size inb_S17x129x129_S17x129x129_0_0_0, g⟩ :: L

/-- The image's grid after its blur, as stored. -/
theorem blur_val : kernelRun0_A.sl.HS0_18 c arg1 harg1 arg2 harg2 arg3 harg3 arg5 x0 x1 x2
    = blurPieces (splatPieces (valPlane (image arg1 harg1 x0)))
        (blur (tapsOf arg2 harg2 x1) (tapsOf arg3 harg3 x2) (splatVal arg1 harg1 arg5 x0)) := rfl

/-- The counts' grid after its blur, as stored. -/
theorem blur_wt : kernelRun0_A.sl.HS1_18 c arg1 harg1 arg2 harg2 arg3 harg3 arg6 x0 x1 x2
    = blurPieces (splatPieces (wtPlane (image arg1 harg1 x0)))
        (blur (tapsOf arg2 harg2 x1) (tapsOf arg3 harg3 x2) (splatWt arg1 harg1 arg6 x0)) := rfl

/-- The output's pieces as stored, last first, from the stripes. -/
def outPieces (P : Fin 8 → FVec F S1x128x1024 .f32) : List (View.Piece (Elt F) S1x1024x1024 .f32) :=
  List.ofFn fun k : Fin 8 => ⟨Rect.unit ![0, 128 * k.rev.val, 0] S1x128x1024.size (inb_rows k.rev), P k.rev⟩

/-- The rows of the image that stripe `s` loads. -/
def imageRows (s : Fin 8) : Vec F S1x128x1024 .f32 :=
  View.readAt (Elt F) arg1.view (Rect.unit (s := S1x1024x1024) ![0, 128 * s.val, 0] S1x128x1024.size (inb_rows s)).toLoadRect (harg1.unread x0)

/-- The rows of bin `z` of a grid that stripe `s` loads. -/
def cells (arg : Memref sig .tc .vmem S17x129x129 .f32) (L : List (View.Piece (Elt F) S17x129x129 .f32)) (s : Fin 8) (z : Fin 17) :
    Vec F S1x17x129 .f32 :=
  arg.view.readCov L (Rect.unit (s := S17x129x129) ![z.val, 16 * s.val, 0] S1x17x129.size (inb_cells s z)).toLoadRect

/-- The output block, as stored: one stripe per 128 rows. -/
theorem out_pieces : (kernelRun0_A c i arg1 harg1 arg2 harg2 arg3 harg3 arg4 harg4 arg5 harg5 arg6 harg6 x0 x1 x2).1
    = outPieces fun s => stripe (imageRows arg1 harg1 x0 s)
        (cells arg5 (kernelRun0_A.sl.HS0_18 c arg1 harg1 arg2 harg2 arg3 harg3 arg5 x0 x1 x2) s)
        (cells arg6 (kernelRun0_A.sl.HS1_18 c arg1 harg1 arg2 harg2 arg3 harg3 arg6 x0 x1 x2) s) := rfl

end Cert.KernelIdeal.Form

end
-- ==== Proof.KernelPlane.lean ====
module

public import proofs.«01_k».proof.Proof.KernelForm

/-! What the kernel's splat computes at the ideal values: its selection matrices are zero-one, so one bin's plane is the
    splat of that bin's pixels. -/

@[expose] public section

set_option maxRecDepth 16384

noncomputable section

namespace Cert.KernelIdeal.Form

open Cert.KernelIdeal Cert.KernelIdeal.Gen Idealize.ShloMosaic Idealize.ShloMosaic.TcCoe Idealize.SL.Sem
open Bilateral hiding blur
open scoped BigOperators

/-- The column selection: pixel column `i` against cell `j`. -/
theorem pay3_apply (i : Fin 1024) (j : Fin 129) : (k0_pay3 (F := Ideal)) (ix2 i j) = if cell i = j then (1 : EReal) else 0 := by
  pointwise [k0_pay3]
  rw [sitofp_nat _ (by omega), sitofp_nat _ (by omega), ofBits_eight, div_real _ _ (by norm_num), Ideal.liftRound_coe,
    roundHalfEven_eighth, Int.cast_natCast, sitofp_bool]
  simp only [decide_eq_true_eq, coe_nat_eq]

/-- The row selection inside a tile: local cell `l` against row `k`. -/
theorem pay5_apply (l : Fin 17) (k : Fin 128) : (k0_pay5 (F := Ideal)) (ix2 l k) = if cell k = l then (1 : EReal) else 0 := by
  pointwise [k0_pay5]
  rw [sitofp_nat _ (by omega), sitofp_nat _ (by omega), ofBits_eight, div_real _ _ (by norm_num), Ideal.liftRound_coe,
    roundHalfEven_eighth, Int.cast_natCast, sitofp_bool]
  simp only [decide_eq_true_eq, coe_nat_eq]

/-- The joining of the tiles: grid row `y` against stacked local row `c`. -/
theorem pay6_apply (y : Fin 129) (c : Fin 136) :
    (k0_pay6 (F := Ideal)) (ix2 y c) = if y.val = c.val - c.val / 17 then (1 : EReal) else 0 := by
  have hf : ⌊(c.val : ℝ) / 17⌋ = ((c.val / 17 : ℕ) : ℤ) := by
    have h1 : ((17 * (c.val / 17) + c.val % 17 : ℕ) : ℝ) = c.val := by exact_mod_cast Nat.div_add_mod c.val 17
    have h2 : ((c.val % 17 : ℕ) : ℝ) < 17 := by exact_mod_cast Nat.mod_lt c.val (by norm_num)
    have h3 : (0 : ℝ) ≤ ((c.val % 17 : ℕ) : ℝ) := by positivity
    rw [Int.floor_eq_iff, Int.cast_natCast]
    push_cast at h1
    constructor <;> linarith
  have hs : (((c.val : ℝ) : EReal) - (((c.val / 17 : ℕ) : ℝ) : EReal)) = (((c.val - c.val / 17 : ℕ) : ℝ) : EReal) := by
    rw [← EReal.coe_sub, Nat.cast_sub (Nat.div_le_self _ _)]
  pointwise [k0_pay6]
  rw [sitofp_nat _ (by omega), sitofp_nat _ (by omega), ofBits_seventeen, div_real _ _ (by norm_num), Ideal.liftRound_coe,
    hf, Int.cast_natCast, hs, sitofp_bool]
  simp only [decide_eq_true_eq, coe_nat_eq]

/-- A zero-one factor selects. -/
theorem ite_mul_eq (P : Prop) [Decidable P] (a : EReal) : (if P then (1 : EReal) else 0) * a = if P then a else 0 := by
  split_ifs <;> simp

/-- The same with the factor on the right. -/
theorem mul_ite_eq (P : Prop) [Decidable P] (a : EReal) : a * (if P then (1 : EReal) else 0) = if P then a else 0 := by
  split_ifs <;> simp

variable (v : FVec Ideal S1024x1024 .f32)

/-- The pixels `v` by row and column number. -/
def pix (i j : ℕ) : EReal := v (ix2 (Fin.ofNat 1024 i) (Fin.ofNat 1024 j))

/-- At true row and column numbers it is the pixel. -/
theorem pix_eq (i j : Fin 1024) : pix v i j = v (ix2 i j) := by
  unfold pix; rw [Fin.ofNat_val_eq_self, Fin.ofNat_val_eq_self]

/-- Local cell `l` of tile `t`: the sum of the tile's rows nearest to it. -/
theorem tile_apply (t : Fin 8) (l : Fin 17) (j : Fin 1024) :
    tile v t (ix2 l j) = ∑ k : Fin 128, if cell k = l then pix v (128 * t + k) j else 0 := by
  pointwise [tile]
  refine Finset.sum_congr rfl fun k _ => ?_
  rw [pay5_apply, ite_mul_eq]
  exact if_congr Iff.rfl (pix_eq v ⟨128 * t.val + k.val, by omega⟩ j).symm rfl

/-- The stacked tiles' row `c` is local cell `c % 17` of tile `c / 17`. -/
theorem tiles_apply (c : Fin 136) (j : Fin 1024) :
    tiles v (ix2 c j) = ∑ k : Fin 128, if cell k = c.val % 17 then pix v (128 * (c.val / 17) + k) j else 0 := by
  have h := concatenate_ofFn_apply (N := 8) (0 : Fin S136x1024.rank) (fun t : Fin 8 => tile v t)
    concatenates_S17x1024_S17x1024_S17x1024_S17x1024_S17x1024_S17x1024_S17x1024_S17x1024_S136x1024_d0 rfl 17 rfl (ix2 c j)
    ⟨c.val / 17, by omega⟩ (by rfl) (ix2 (⟨c.val % 17, by omega⟩ : Fin 17) j) (by rfl)
    (fun a ha => by fin_cases a; exacts [absurd rfl ha, rfl])
  unfold tiles
  rw [h, tile_apply]

/-- One plane of the splat is the splat. -/
theorem plane_apply (y x : Fin 129) : plane v (ix3 0 y x) = splat (fun i j => v (ix2 i j)) y x := by
  pointwise [plane]
  simp only [tiles_apply, pay6_apply, pay3_apply, ite_mul_eq, mul_ite_eq]
  rw [tiled_splat (pix v)]
  simp only [pix_eq]

variable (w : Vec Ideal S1x1024x1024 .f32)

/-- A pixel's bin as the kernel computes it. -/
theorem bins_apply (i j : Fin 1024) : bins (F := Ideal) w (ix2 i j) = ((bin (w (ix3 0 i j)) : ℝ) : EReal) := by
  pointwise [bins, k0_pay8, k0_pay7, k0_pay2]
  rw [ofBits_fifteen, bin_eq]

/-- The mask of bin `z`. -/
theorem mask_apply (z : Fin 17) (i j : Fin 1024) :
    mask (bins (F := Ideal) w) z (ix2 i j) = if bin (w (ix3 0 i j)) = z then (1 : EReal) else 0 := by
  pointwise [mask]
  rw [bins_apply, ofBits_bin, sitofp_bool]
  simp only [decide_eq_true_eq, coe_nat_eq]

/-- The image's splat at bin `z`. -/
theorem valPlane_apply (z : Fin 17) (y x : Fin 129) :
    valPlane (F := Ideal) w z (ix3 0 y x) = grid (fun i j => bin (w (ix3 0 i j))) (fun i j => w (ix3 0 i j)) z y x := by
  unfold valPlane
  rw [plane_apply]
  unfold grid
  congr 1
  funext i j
  pointwise [k0_pay2]
  rw [mask_apply, mul_ite_eq]

/-- The counts' splat at bin `z`. -/
theorem wtPlane_apply (z : Fin 17) (y x : Fin 129) :
    wtPlane (F := Ideal) w z (ix3 0 y x) = grid (fun i j => bin (w (ix3 0 i j))) (fun _ _ => 1) z y x := by
  unfold wtPlane
  rw [plane_apply]
  unfold grid
  congr 1
  funext i j
  rw [mask_apply]

/-- No pixel lies in bin 16. -/
theorem grid_last (q : Fin 1024 → Fin 1024 → EReal) (v : Fin 1024 → Fin 1024 → EReal) (y x : ℕ) :
    grid (fun i j => bin (q i j)) v 16 y x = 0 := by
  unfold grid splat
  have h : ∀ i j, bin (q i j) ≠ 16 := fun i j => by have := bin_le (q i j); omega
  simp only [h, if_false, ite_self, Finset.sum_const_zero]

end Cert.KernelIdeal.Form

end
-- ==== Proof.KernelBlur.lean ====
module

public import proofs.«01_k».proof.Proof.KernelForm

/-! The kernel's blur of a grid at the ideal values: five taps along y, then along x, then along z. -/

@[expose] public section

set_option maxRecDepth 16384

noncomputable section

namespace Cert.KernelIdeal.Form

open Cert.KernelIdeal Cert.KernelIdeal.Gen Idealize.ShloMosaic Idealize.ShloMosaic.TcCoe Idealize.SL.Sem
open Bilateral (taps5 taps5_centre)

variable (k : Fin 5 → EReal) (a : FVec Ideal S17x129x129 .f32) (G : ℕ → ℕ → ℕ → EReal)
  (hG : ∀ (z : Fin 17) (y x : Fin 129), a (ix3 z y x) = G z y x)
include hG

/-- The taps along y. -/
theorem blurY_apply (z : Fin 17) (y x : Fin 129) :
    blurY (F := Ideal) k a (ix3 z y x) = taps5 129 k (fun y => G z y x) y := by
  pointwise [blurY, taps]
  rw [← taps5_centre]
  simp only [hG, dite_eq_ite, Nat.add_comm 1, Nat.add_comm 2, show y.val < 128 ↔ y.val + 1 < 129 by omega,
    show y.val < 127 ↔ y.val + 2 < 129 by omega]

/-- The taps along x. -/
theorem blurX_apply (z : Fin 17) (y x : Fin 129) :
    blurX (F := Ideal) k a (ix3 z y x) = taps5 129 k (fun x => G z y x) x := by
  pointwise [blurX, taps]
  rw [← taps5_centre]
  simp only [hG, dite_eq_ite, Nat.add_comm 1, Nat.add_comm 2, show x.val < 128 ↔ x.val + 1 < 129 by omega,
    show x.val < 127 ↔ x.val + 2 < 129 by omega]

/-- The taps along z. -/
theorem blurZ_apply (z : Fin 17) (y x : Fin 129) :
    blurZ (F := Ideal) k a (ix3 z y x) = taps5 17 k (fun z => G z y x) z := by
  pointwise [blurZ, taps]
  rw [← taps5_centre]
  simp only [hG, dite_eq_ite, Nat.add_comm 1, Nat.add_comm 2, show z.val < 16 ↔ z.val + 1 < 17 by omega,
    show z.val < 15 ↔ z.val + 2 < 17 by omega]

/-- The three passes are the blur of the grid. -/
theorem blur_apply (ks kr : Fin 5 → EReal) (z : Fin 17) (y x : Fin 129) :
    blur (F := Ideal) ks kr a (ix3 z y x) = Bilateral.blur ks kr G z y x := by
  have hY := blurY_apply ks a G hG
  have hX := blurX_apply ks (blurY (F := Ideal) ks a) (fun z y x => taps5 129 ks (fun y => G z y x) y) hY
  have hZ := blurZ_apply kr (blurX (F := Ideal) ks (blurY (F := Ideal) ks a))
    (fun z y x => taps5 129 ks (fun x => taps5 129 ks (fun y => G z y x) y) x) hX
  pointwise [blur]
  rw [hZ]
  rfl

end Cert.KernelIdeal.Form

end
-- ==== Proof.KernelStripe.lean ====
module

public import proofs.«01_k».proof.Proof.KernelForm

/-! One stripe of the kernel's output at the ideal values: the tent weights along y, x and z interpolate the two blurred
    grids, and the stripe is the quotient. -/

@[expose] public section

set_option maxRecDepth 16384

noncomputable section

namespace Cert.KernelIdeal.Form

open Cert.KernelIdeal Cert.KernelIdeal.Gen Idealize.ShloMosaic Idealize.ShloMosaic.TcCoe Idealize.SL.Sem
open Bilateral hiding blur
open scoped BigOperators

/-- The y weight of local row `r` at local cell `q`. -/
theorem pay155_apply (r : Fin 128) (q : Fin 17) :
    k0_pay155 (F := Ideal) k0_pay153 k0_pay154 (ix2 r q) = ((max 0 (1 - |(r.val : ℝ) / 8 - (q.val : ℝ)|) : ℝ) : EReal) := by
  pointwise [k0_pay155, k0_pay153, k0_pay154]
  rw [sitofp_nat _ (by omega), sitofp_nat _ (by omega), ofBits_eight, div_real _ _ (by norm_num), tent_real]

/-- The x weight of column `j` at cell `q`. -/
theorem pay4_apply (q : Fin 129) (j : Fin 1024) :
    k0_pay4 (F := Ideal) (ix2 q j) = ((max 0 (1 - |(j.val : ℝ) / 8 - (q.val : ℝ)|) : ℝ) : EReal) := by
  pointwise [k0_pay4]
  rw [sitofp_nat _ (by omega), sitofp_nat _ (by omega), ofBits_eight, div_real _ _ (by norm_num), tent_real]

/-- The z weight of bin `z` at level `f`. -/
theorem tent_apply (f : FVec Ideal S128x1024 .f32) (z : Fin 17) (r : Fin 128) (j : Fin 1024) (l : ℝ)
    (hl : f (ix2 r j) = ((l : ℝ) : EReal)) :
    tent (F := Ideal) f z (ix2 r j) = ((max 0 (1 - |l - (z.val : ℝ)|) : ℝ) : EReal) := by
  pointwise [tent]
  rw [hl, ofBits_bin, tent_real]

/-- Stripe `s` starts 16 cells below stripe zero and leaves the fraction unchanged. -/
theorem frac_tile (s r : ℕ) : ((128 * s + r : ℕ) : ℝ) / 8 - ((128 * s + r) / 8 : ℕ) = (r : ℝ) / 8 - (r / 8 : ℕ) := by
  rw [show (128 * s + r) / 8 = 16 * s + r / 8 by omega]
  push_cast
  ring

variable (g : Fin 17 → Vec Ideal S1x17x129 .f32) (G : ℕ → ℕ → ℕ → EReal) (s : ℕ)
  (hg : ∀ (z : Fin 17) (q : Fin 17) (x : Fin 129), g z (ix3 0 q x) = G z (16 * s + q) x)
include hg

/-- A grid interpolated along y at image row `128 s + r`. -/
theorem rows_apply (z : Fin 17) (r : Fin 128) (x : Fin 129) :
    rows (F := Ideal) g (ix2 ⟨128 * z.val + r.val, by omega⟩ x)
      = lerp (((128 * s + r.val : ℕ) : ℝ) / 8 - ((128 * s + r.val) / 8 : ℕ)) (G z ((128 * s + r.val) / 8) x)
          (G z ((128 * s + r.val) / 8 + 1) x) := by
  have hv : ∀ q : Fin 17, k0_pay155 (F := Ideal) k0_pay153 k0_pay154 (ix2 r q) * g z (ix3 0 q x)
      = ((max 0 (1 - |(r.val : ℝ) / 8 - (q.val : ℝ)|) : ℝ) : EReal) * G z (16 * s + q) x := fun q => by rw [pay155_apply, hg]
  have hsum := tent_sum 17 ((r.val : ℝ) / 8) (by positivity) (by rw [floor_eighth]; omega) (fun q => G z (16 * s + q) x)
  unfold rows
  refine (concatenate_ofFn_apply (N := 17) (s₁ := S128x129) (0 : Fin S2176x129.rank) _ _ rfl 128 rfl (ix2 ⟨128 * z.val + r.val, by omega⟩ x) z
    (show (128 * z.val + r.val) / 128 = z.val by omega) (ix2 r x)
    (show r.val = (128 * z.val + r.val) % 128 by omega) (fun a ha => by fin_cases a; exacts [absurd rfl ha, rfl])).trans ?_
  pointwise
  rw [Finset.sum_congr rfl fun q _ => hv q, hsum, floor_eighth, frac_tile,
    show (128 * s + r.val) / 8 = 16 * s + r.val / 8 by omega, Nat.add_assoc]

/-- A grid interpolated along y and x at image row `128 s + r` and column `j`. -/
theorem planes_apply (z : Fin 17) (r : Fin 128) (j : Fin 1024) :
    planes (F := Ideal) g (ix2 ⟨128 * z.val + r.val, by omega⟩ j)
      = lerp ((j.val : ℝ) / 8 - (j.val / 8 : ℕ))
          (lerp (((128 * s + r.val : ℕ) : ℝ) / 8 - ((128 * s + r.val) / 8 : ℕ)) (G z ((128 * s + r.val) / 8) (j.val / 8))
            (G z ((128 * s + r.val) / 8 + 1) (j.val / 8)))
          (lerp (((128 * s + r.val : ℕ) : ℝ) / 8 - ((128 * s + r.val) / 8 : ℕ)) (G z ((128 * s + r.val) / 8) (j.val / 8 + 1))
            (G z ((128 * s + r.val) / 8 + 1) (j.val / 8 + 1))) := by
  have hsum := tent_sum 129 ((j.val : ℝ) / 8) (by positivity) (by rw [floor_eighth]; omega)
    (fun x => lerp (((128 * s + r.val : ℕ) : ℝ) / 8 - ((128 * s + r.val) / 8 : ℕ)) (G z ((128 * s + r.val) / 8) x)
            (G z ((128 * s + r.val) / 8 + 1) x))
  rw [floor_eighth, Fin.sum_univ_castSucc] at hsum
  rw [← hsum]
  pointwise [planes, k0_pay188]
  refine congrArg₂ (· + ·) (Finset.sum_congr rfl fun x _ => ?_) ?_
  · pointwise [k0_pay156]
    rw [pay4_apply, mul_comm]
    exact congrArg _ (rows_apply g G s hg z r x.castSucc)
  · pointwise [k0_pay157]
    rw [pay4_apply, mul_comm]
    exact congrArg _ (rows_apply g G s hg z r (Fin.last 128))

omit hg in
/-- A left fold of additions is the sum. -/
theorem foldl_addf (l : List (FVec Ideal S128x1024 .f32)) (b : FVec Ideal S128x1024 .f32) (i : S128x1024.Idx) :
    l.foldl addf b i = b i + (l.map fun v => (v i : EReal)).sum := by
  induction l generalizing b with
  | nil => simp
  | cons v l ih =>
    rw [List.foldl_cons, ih, List.map_cons, List.sum_cons, ← add_assoc]
    rfl

/-- The interpolation across bins at level `l`. -/
theorem across_apply (f : FVec Ideal S128x1024 .f32) (r : Fin 128) (j : Fin 1024) (p : EReal)
    (hl : f (ix2 r j) = ((level p : ℝ) : EReal)) :
    across (F := Ideal) f (planes g) (ix2 r j) = slice G (level p) (128 * s + r.val) j := by
  have hsum := tent_sum 17 (level p) (level_nonneg p) (by have := floor_level_le p; omega)
    (fun z => lerp ((j.val : ℝ) / 8 - (j.val / 8 : ℕ))
          (lerp (((128 * s + r.val : ℕ) : ℝ) / 8 - ((128 * s + r.val) / 8 : ℕ)) (G z ((128 * s + r.val) / 8) (j.val / 8))
            (G z ((128 * s + r.val) / 8 + 1) (j.val / 8)))
          (lerp (((128 * s + r.val : ℕ) : ℝ) / 8 - ((128 * s + r.val) / 8 : ℕ)) (G z ((128 * s + r.val) / 8) (j.val / 8 + 1))
            (G z ((128 * s + r.val) / 8 + 1) (j.val / 8 + 1))))
  unfold slice across
  rw [← hsum, foldl_addf, List.map_ofFn, List.sum_ofFn]
  have h0 : (broadcast S128x1024 (Scalar.ofBits (F := Ideal) .f32 0x00000000#32) : FVec Ideal S128x1024 .f32) (ix2 r j) = (0 : EReal) := by
    pointwise
  rw [h0, zero_add]
  refine Finset.sum_congr rfl fun z _ => ?_
  show mulf (tent f z) (extractStridedSlice S128x1024 ![128 * z.val, 0] (planes g) (slices_bin z)) (ix2 r j) = _
  pointwise
  rw [tent_apply f z r j _ hl]
  exact congrArg _ (planes_apply g G s hg z r j)

omit hg in
/-- One stripe at local row `r`: the quotient of the two interpolated grids. -/
theorem stripe_apply (x : Vec Ideal S1x128x1024 .f32) (gv gw : Fin 17 → Vec Ideal S1x17x129 .f32) (V W : ℕ → ℕ → ℕ → EReal) (s : ℕ)
    (hv : ∀ (z : Fin 17) (q : Fin 17) (x : Fin 129), gv z (ix3 0 q x) = V z (16 * s + q) x)
    (hw : ∀ (z : Fin 17) (q : Fin 17) (x : Fin 129), gw z (ix3 0 q x) = W z (16 * s + q) x)
    (r : Fin 128) (j : Fin 1024) :
    stripe (F := Ideal) x gv gw (ix3 0 r j)
      = Ideal.div (slice V (level (x (ix3 0 r j))) (128 * s + r.val) j)
          (slice W (level (x (ix3 0 r j))) (128 * s + r.val) j + Ideal.ofBits .f32 0x322BCC77#32) := by
  have hl : k0_pay158 (F := Ideal) x (ix2 r j) = ((level (x (ix3 0 r j)) : ℝ) : EReal) := by
    pointwise [k0_pay158]
    rw [ofBits_fifteen, level_eq]
  have h1 := across_apply gv V s hv _ r j _ hl
  have h2 := across_apply gw W s hw _ r j _ hl
  rw [← h1, ← h2]
  pointwise [stripe]

end Cert.KernelIdeal.Form

end
-- ==== Proof.KernelBlock.lean ====
module

public import proofs.«01_k».proof.Proof.KernelPlane
public import proofs.«01_k».proof.Proof.KernelBlur
public import proofs.«01_k».proof.Proof.KernelStripe
public import Idealize.ShloMosaic.Lib.Pipeline.ValueKit.Tiles

/-! The output block of one grid point: what the body's loads read of its stores, and the stored stripes together. -/

@[expose] public section

set_option maxRecDepth 16384

noncomputable section

namespace Cert.KernelIdeal.Form

open Cert.KernelIdeal Cert.KernelIdeal.Gen Idealize.ShloMosaic Idealize.ShloMosaic.TcCoe Idealize.SL.Sem
open Bilateral hiding blur
open scoped BigOperators

/-! ## The loads of the inputs -/

section Loads

variable (arg1 : Memref sig .tc .vmem S1x1024x1024 .f32) (harg1 : arg1.IsWhole) (x0 : Vec Ideal S1x1024x1024 .f32)

/-- The loaded image is the block. -/
theorem image_eq : image (F := Ideal) arg1 harg1 x0 = x0 := by
  funext i
  unfold image
  rw [View.readAt_apply, harg1.read_unread]
  refine congrArg x0 (funext fun a => Fin.ext ?_)
  refine (Rect.idx_unit_val _ _ _ _ a).trans ?_
  fin_cases a <;> simp <;> rfl

/-- The loaded rows of a stripe are the block's. -/
theorem imageRows_apply (s : Fin 8) (r : Fin 128) (j : Fin 1024) :
    imageRows (F := Ideal) arg1 harg1 x0 s (ix3 0 r j) = x0 (ix3 0 ⟨128 * s.val + r.val, by omega⟩ j) := by
  unfold imageRows
  rw [View.readAt_apply, harg1.read_unread]
  refine congrArg x0 (funext fun a => Fin.ext ?_)
  refine (Rect.idx_unit_val _ _ _ _ a).trans ?_
  fin_cases a <;> simp <;> rfl

/-- The loaded taps are the buffer's five values. -/
theorem tapsOf_apply (arg : Memref sig .tc .smem S5 .f32) (harg : arg.IsWhole) (y : Vec Ideal S5 .f32) (k : Fin 5) :
    tapsOf (F := Ideal) arg harg y k = y (ix1 k) := by
  unfold tapsOf
  rw [View.readAt_apply, harg.read_unread]
  refine congrArg y (funext fun a => Fin.ext ?_)
  refine (Rect.idx_unit_val _ _ _ _ a).trans ?_
  fin_cases a
  rfl

end Loads

/-! ## The loads of the grids -/

/-- A whole index of the grid is a piece's local index, shifted. -/
theorem idx_plane (z : Fin 17) (y x : Fin 129) :
    (Rect.unit (s := S17x129x129) ![z.val, 0, 0] S1x129x129.size (inb_plane z)).emb (ix3 0 y x) = ix3 z y x := by
  funext a
  refine Fin.ext ((Rect.idx_unit_val _ _ _ _ a).trans ?_)
  fin_cases a <;> simp <;> rfl

variable (w : Vec Ideal S1x1024x1024 .f32)

/-- The stored planes read back at `(z, y, x)` give plane `z` at `(y, x)`, when the plane of bin 16 is zero. -/
theorem canon_splat (P : Fin 17 → FVec Ideal S1x129x129 .f32) (G : ℕ → ℕ → ℕ → EReal)
    (hP : ∀ z y x, P z (ix3 0 y x) = G z y x) (h16 : ∀ y x, G 16 y x = 0) (z : Fin 17) (y x : Fin 129) :
    View.canon (splatPieces P) (ix3 z y x) = G z y x := by
  refine View.canon_apply_of_pieces (fun i => G (i 0).val (i 1).val (i 2).val) (splatPieces P) ?_ (ix3 z y x) ?_
  · intro p hp
    rcases List.mem_cons.mp hp with rfl | hp
    · intro i
      obtain ⟨q, y, x, rfl⟩ : ∃ q y x, i = ix3 q y x := ⟨i 0, i 1, i 2, by funext a; fin_cases a <;> rfl⟩
      obtain rfl : q = 0 := Subsingleton.elim _ _
      have e := idx_plane 16 y x
      refine Eq.trans ?_ (congrArg (fun i : S17x129x129.Idx => G (i 0).val (i 1).val (i 2).val) e).symm
      refine Eq.trans ?_ (h16 y x).symm
      show k0_pay141 (F := Ideal) (ix3 0 y x) = 0
      pointwise [k0_pay141]
    · obtain ⟨k, rfl⟩ := List.mem_ofFn.mp hp
      intro i
      obtain ⟨q, y, x, rfl⟩ : ∃ q y x, i = ix3 q y x := ⟨i 0, i 1, i 2, by funext a; fin_cases a <;> rfl⟩
      obtain rfl : q = 0 := Subsingleton.elim _ _
      have e := idx_plane k.rev.castSucc y x
      exact (hP _ y x).trans (congrArg (fun i : S17x129x129.Idx => G (i 0).val (i 1).val (i 2).val) e).symm
  · by_cases hz : z = 16
    · subst hz
      refine ⟨_, List.mem_cons_self, ?_⟩
      exact (Rect.mem_set_unit (inb := inb_plane 16)).mpr fun a => by fin_cases a <;> simp <;> omega
    · have hz' : z.val < 16 := by have := z.isLt; have : z.val ≠ 16 := fun h => hz (Fin.ext h); omega
      obtain ⟨k, hk⟩ : ∃ k : Fin 16, k.rev.castSucc.val = z.val := ⟨(⟨z.val, hz'⟩ : Fin 16).rev, by rw [Fin.rev_rev]; rfl⟩
      refine ⟨_, List.mem_cons_of_mem _ (List.mem_ofFn.mpr ⟨k, rfl⟩), ?_⟩
      refine (Rect.mem_set_unit (inb := inb_plane k.rev.castSucc)).mpr fun a => ?_
      rw [hk]
      fin_cases a <;> simp <;> omega

/-- A stripe's load of a blurred grid. -/
theorem cells_apply (arg : Memref sig .tc .vmem S17x129x129 .f32) (L : List (View.Piece (Elt Ideal) S17x129x129 .f32))
    (g : Vec Ideal S17x129x129 .f32) (s : Fin 8) (z q : Fin 17) (x : Fin 129) :
    cells (F := Ideal) arg (blurPieces L g) s z (ix3 0 q x) = g (ix3 z ⟨16 * s.val + q.val, by omega⟩ x) := by
  unfold cells blurPieces
  rw [View.readCov_eq_canon', View.canon_cons_unit_lit _ _ _ (fun a => by fin_cases a <;> rfl)]
  refine congrArg g (funext fun a => Fin.ext ?_)
  refine (Rect.idx_unit_val _ _ _ _ a).trans ?_
  fin_cases a <;> simp <;> rfl

/-- The whole load of the stored planes. -/
theorem readCov_splat (arg : Memref sig .tc .vmem S17x129x129 .f32) (L : List (View.Piece (Elt Ideal) S17x129x129 .f32)) :
    arg.view.readCov L (Rect.unit ![0, 0, 0] S17x129x129.size inb_S17x129x129_S17x129x129_0_0_0).toLoadRect = View.canon L := by
  rw [View.readCov_eq_canon']
  funext i
  refine congrArg (View.canon L) (funext fun a => Fin.ext ?_)
  refine (Rect.idx_unit_val _ _ _ _ a).trans ?_
  fin_cases a <;> simp <;> rfl

/-! ## The block -/

/-- A row of the block lies in stripe `row / 128`. -/
theorem idx_rows (s : Fin 8) (r : Fin 128) (j : Fin 1024) :
    (Rect.unit (s := S1x1024x1024) ![0, 128 * s.val, 0] S1x128x1024.size (inb_rows s)).emb (ix3 0 r j)
      = ix3 0 ⟨128 * s.val + r.val, by omega⟩ j := by
  funext a
  refine Fin.ext ((Rect.idx_unit_val _ _ _ _ a).trans ?_)
  fin_cases a <;> simp <;> rfl

/-- The stored stripes read at a pixel. -/
theorem canon_out (P : Fin 8 → FVec Ideal S1x128x1024 .f32) (G : Fin 1024 → Fin 1024 → EReal)
    (hP : ∀ (s : Fin 8) (r : Fin 128) j, P s (ix3 0 r j) = G ⟨128 * s.val + r.val, by omega⟩ j) (i j : Fin 1024) :
    View.canon (outPieces P) (ix3 0 i j) = G i j := by
  refine View.canon_apply_of_pieces (fun y => G (y 1) (y 2)) (outPieces P) ?_ (ix3 0 i j) ?_
  · intro p hp
    obtain ⟨k, rfl⟩ := List.mem_ofFn.mp hp
    intro i
    obtain ⟨q, r, j, rfl⟩ : ∃ q r j, i = ix3 q r j := ⟨i 0, i 1, i 2, by funext a; fin_cases a <;> rfl⟩
    obtain rfl : q = 0 := Subsingleton.elim _ _
    exact (hP _ r j).trans (congrArg (fun y : S1x1024x1024.Idx => G (y 1) (y 2)) (idx_rows k.rev r j)).symm
  · obtain ⟨k, hk⟩ : ∃ k : Fin 8, k.rev.val = i.val / 128 := ⟨(⟨i.val / 128, by omega⟩ : Fin 8).rev, by rw [Fin.rev_rev]⟩
    refine ⟨_, List.mem_ofFn.mpr ⟨k, rfl⟩, ?_⟩
    refine (Rect.mem_set_unit (inb := inb_rows k.rev)).mpr fun a => ?_
    rw [hk]
    fin_cases a <;> simp <;> omega

variable (c : Dev nD) (p : grid0.Coords) (arg1 : Memref sig .tc .vmem S1x1024x1024 .f32) (harg1 : arg1.IsWhole) (arg2 : Memref sig .tc .smem S5 .f32) (harg2 : arg2.IsWhole) (arg3 : Memref sig .tc .smem S5 .f32) (harg3 : arg3.IsWhole) (arg4 : Memref sig .tc .vmem S1x1024x1024 .f32) (harg4 : arg4.IsWhole) (arg5 : Memref sig .tc .vmem S17x129x129 .f32) (harg5 : arg5.IsWhole) (arg6 : Memref sig .tc .vmem S17x129x129 .f32) (harg6 : arg6.IsWhole)
    (x0 : Vec Ideal S1x1024x1024 .f32) (x1 : Vec Ideal S5 .f32) (x2 : Vec Ideal S5 .f32)

/-- The image's grid as loaded. -/
theorem splatVal_apply (z : Fin 17) (y x : Fin 129) :
    splatVal (F := Ideal) arg1 harg1 arg5 x0 (ix3 z y x)
      = grid (fun i j => bin (x0 (ix3 0 i j))) (fun i j => x0 (ix3 0 i j)) z y x := by
  unfold splatVal
  rw [readCov_splat, image_eq]
  exact canon_splat _ _ (fun z y x => valPlane_apply x0 z y x) (fun y x => grid_last _ _ y x) z y x

/-- The counts' grid as loaded. -/
theorem splatWt_apply (z : Fin 17) (y x : Fin 129) :
    splatWt (F := Ideal) arg1 harg1 arg6 x0 (ix3 z y x) = grid (fun i j => bin (x0 (ix3 0 i j))) (fun _ _ => 1) z y x := by
  unfold splatWt
  rw [readCov_splat, image_eq]
  exact canon_splat _ _ (fun z y x => wtPlane_apply x0 z y x) (fun y x => grid_last _ _ y x) z y x

/-- The block of one grid point is the filtered image block. -/
theorem block_apply (i j : Fin 1024) :
    View.canon (kernelRun0_A (F := Ideal) c p arg1 harg1 arg2 harg2 arg3 harg3 arg4 harg4 arg5 harg5 arg6 harg6 x0 x1 x2).1 (ix3 0 i j)
      = filtered (fun k => x1 (ix1 k)) (fun k => x2 (ix1 k)) (fun i j => x0 (ix3 0 i j)) i j := by
  rw [out_pieces, blur_val, blur_wt]
  have hs : tapsOf (F := Ideal) arg2 harg2 x1 = fun k => x1 (ix1 k) := funext fun k => tapsOf_apply arg2 harg2 x1 k
  have hr : tapsOf (F := Ideal) arg3 harg3 x2 = fun k => x2 (ix1 k) := funext fun k => tapsOf_apply arg3 harg3 x2 k
  rw [hs, hr]
  refine canon_out _ (filtered (fun k => x1 (ix1 k)) (fun k => x2 (ix1 k)) (fun i j => x0 (ix3 0 i j))) (fun s r j => ?_) i j
  rw [stripe_apply _ _ _
    (Bilateral.blur (fun k => x1 (ix1 k)) (fun k => x2 (ix1 k))
      (grid (fun i j => bin (x0 (ix3 0 i j))) (fun i j => x0 (ix3 0 i j))))
    (Bilateral.blur (fun k => x1 (ix1 k)) (fun k => x2 (ix1 k)) (grid (fun i j => bin (x0 (ix3 0 i j))) fun _ _ => 1)) s
    (fun z q x => (cells_apply arg5 _ _ s z q x).trans (blur_apply _ _ (splatVal_apply arg1 harg1 arg5 x0) _ _ z _ x))
    (fun z q x => (cells_apply arg6 _ _ s z q x).trans (blur_apply _ _ (splatWt_apply arg1 harg1 arg6 x0) _ _ z _ x)) r j,
    imageRows_apply]
  rfl

end Cert.KernelIdeal.Form

end
-- ==== Proof.KernelArray.lean ====
module

public import proofs.«01_k».proof.Proof.KernelBlock
public import Idealize.ShloMosaic.Lib.Pipeline.ValueKit

/-! The kernel's result array after the run: every image of the batch filtered. -/

@[expose] public section

set_option maxRecDepth 16384

noncomputable section

namespace Cert.KernelIdeal.Form

open Cert.KernelIdeal Cert.KernelIdeal.Gen Idealize.ShloMosaic Idealize.ShloMosaic.TcCoe Idealize.SL.Sem
open Bilateral hiding blur
open scoped BigOperators

variable (m : (ℓ : Loc nD τ sig) → Buf (Elt Ideal) ℓ) (c : Dev nD)

/-- The images as twelve planes. -/
def imgs (a : FVec Ideal S4x3x1024x1024 .f32) : FVec Ideal S12x1024x1024 .f32 :=
  shapeCast S12x1024x1024 a shapeCasts_S4x3x1024x1024_S12x1024x1024

/-- Every image filtered. -/
def filteredAll (a : FVec Ideal S4x3x1024x1024 .f32) (ks kr : FVec Ideal S5 .f32) : FVec Ideal S12x1024x1024 .f32 := fun y =>
  filtered (fun k => ks (ix1 k)) (fun k => kr (ix1 k)) (fun i j => imgs a (ix3 (y 0) i j)) (y 1) (y 2)

/-- Grid point `t` works on image `t`. -/
theorem index_out : ∀ t : Fin cfg0.N, win0_3.index t = ![t.val, 0, 0] :=
  (by decide +kernel : ∀ t : Fin grid0.N, win0_3.index t = ![t.val, 0, 0])

/-- The image operand's block at grid point `t` is image `t`. -/
theorem index_img : ∀ t : Fin cfg0.N, win0_0.index t = ![t.val, 0, 0] :=
  (by decide +kernel : ∀ t : Fin grid0.N, win0_0.index t = ![t.val, 0, 0])

/-- The image operand as the kernel's grid finds it. -/
theorem entry_img : V m c main_v0 = imgs (m ((c : Thread nD τ).loc main_arg0)) := by
  funext y
  entry_read
  rfl

/-- Block `t` of the result is image `t`. -/
theorem emb_out (t : Fin cfg0.N) (i j : Fin 1024) : (win0_3.blk t).view.emb (ix3 0 i j) = ix3 (t : Fin 12) i j := by
  funext a
  refine Fin.ext ?_
  blk_simp [index_out t]
  fin_cases a <;> simp <;> rfl

/-- Block `t` of the image operand is image `t`. -/
theorem emb_img (t : Fin cfg0.N) (i j : Fin 1024) : (win0_0.blk t).view.emb (ix3 0 i j) = ix3 (t : Fin 12) i j := by
  funext a
  refine Fin.ext ?_
  blk_simp [index_img t]
  fin_cases a <;> simp <;> rfl

/-- The image block of grid point `t`. -/
theorem block_img (t : Fin cfg0.N) (i j : Fin 1024) :
    iblk m c 0 t (ix3 0 i j) = imgs (m ((c : Thread nD τ).loc main_arg0)) (ix3 (t : Fin 12) i j) := by
  show V m c main_v0 ((win0_0.blk t).view.emb (ix3 0 i j)) = _
  rw [emb_img, entry_img]
  rfl

/-- The spatial taps at every grid point. -/
theorem block_ks (t : Fin cfg0.N) (k : Fin 5) : iblk m c 1 t (ix1 k) = m ((c : Thread nD τ).loc main_arg2) (ix1 k) := by
  show V m c main_arg2 ((win0_1.blk t).view.emb (ix1 k)) = _
  rw [V_main_arg2]
  refine congrArg _ (funext fun a => Fin.ext ?_)
  blk_simp
  fin_cases a
  simp <;> rfl

/-- The range taps at every grid point. -/
theorem block_kr (t : Fin cfg0.N) (k : Fin 5) : iblk m c 2 t (ix1 k) = m ((c : Thread nD τ).loc main_arg3) (ix1 k) := by
  show V m c main_arg3 ((win0_2.blk t).view.emb (ix1 k)) = _
  rw [V_main_arg3]
  refine congrArg _ (funext fun a => Fin.ext ?_)
  blk_simp
  fin_cases a
  simp <;> rfl

/-- After the run the result array holds every image filtered. -/
theorem array_eq : (dats m 0 c).arrAt 3 cfg0.N
    = filteredAll (m ((c : Thread nD τ).loc main_arg0)) (m ((c : Thread nD τ).loc main_arg2)) (m ((c : Thread nD τ).loc main_arg3)) := by
  refine (dats m 0 c).arrAt_eq_of_covers 3 _ (by decide +kernel) fun t hf y => ?_
  rw [after0_3]
  obtain ⟨q, i, j, rfl⟩ : ∃ q i j, y = ix3 q i j := ⟨y 0, y 1, y 2, by funext a; fin_cases a <;> rfl⟩
  obtain rfl : q = 0 := Subsingleton.elim _ _
  blk_simp
  unfold outsAt0 out0_A_3
  rw [View.read_writes_junk_eq_canon, emb_out]
  refine (block_apply _ _ _ _ _ _ _ _ _ _ _ _ _ _ (iblk m c 0 t) (iblk m c 1 t) (iblk m c 2 t) i j).trans ?_
  simp only [block_img, block_ks, block_kr]
  rfl

/-- The kernel runs to its end, its result array holds every image filtered and its arguments are unchanged. -/
theorem run_filtered (ρ : Dev nD → PrngReg) :
    θ_run defs (onTc (τ := τ) (main (F := Ideal))) ⟨m, fun _ => 0, ρ⟩ fun r => ∀ c : Dev nD,
      r.2.mem ((c : Thread nD τ).loc main_v1) = filteredAll (m ((c : Thread nD τ).loc main_arg0))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (array_eq m c), (h c).2⟩) (Value.run_blocks m ρ)

end Cert.KernelIdeal.Form

end
-- ==== Proof.ReferenceForm.lean ====
module

public import proofs.«01_k».proof.Proof.Gen.ReferenceIdeal.Run

/-! The reference's composed terms written as a few regular functions: the scatter, the blur along each axis, the
    gathered corners and their weighted sum. The run's terms are these functions by definition. -/

@[expose] public section

set_option maxRecDepth 16384

noncomputable section

namespace Cert.ReferenceIdeal.Form

open Cert.ReferenceIdeal Cert.ReferenceIdeal.Gen Cert.ReferenceIdeal.Value Idealize.ShloMosaic Idealize.ShloMosaic.TcCoe Idealize.SL.Sem

variable {F : FTy → Type} [FloatOps F]

local notation "Imgs" => FVec F S12x1024x1024 FTy.f32
local notation "Grids" => FVec F S12x129x129x17 FTy.f32
local notation "Words" => IVec S12x1024x1024 32
local notation "Line" => FVec F S1024 FTy.f32

/-- One column of grid coordinates. -/
def column (v : Words) : IVec S12x1024x1024x1 32 :=
  broadcastInDim S12x1024x1024x1 ![0, 1, 2] bcast_S12x1024x1024_S12x1024x1024x1_0_1_2 v

/-- The image numbers at every pixel, negatives wrapped. -/
def imagesOf (v : IVec S12x1x1 32) : Words :=
  broadcastInDim S12x1024x1024 ![0, 1, 2] bcast_S12x1x1_S12x1024x1024_0_1_2
    (select (cmpi .slt v (broadcastInDim S12x1x1 ![] bcast_S_S12x1x1 (constantI S_ 32 0#32)))
      (addi v (broadcastInDim S12x1x1 ![] bcast_S_S12x1x1 (constantI S_ 32 12#32))) v)

/-- The y coordinates at every pixel, negatives wrapped. -/
def ysOf (v : IVec S1x1024x1 32) : Words :=
  broadcastInDim S12x1024x1024 ![0, 1, 2] bcast_S1x1024x1_S12x1024x1024_0_1_2
    (select (cmpi .slt v (broadcastInDim S1x1024x1 ![] bcast_S_S1x1024x1 (constantI S_ 32 0#32)))
      (addi v (broadcastInDim S1x1024x1 ![] bcast_S_S1x1024x1 (constantI S_ 32 129#32))) v)

/-- The x coordinates at every pixel, negatives wrapped. -/
def xsOf (v : IVec S1x1x1024 32) : Words :=
  broadcastInDim S12x1024x1024 ![0, 1, 2] bcast_S1x1x1024_S12x1024x1024_0_1_2
    (select (cmpi .slt v (broadcastInDim S1x1x1024 ![] bcast_S_S1x1x1024 (constantI S_ 32 0#32)))
      (addi v (broadcastInDim S1x1x1024 ![] bcast_S_S1x1x1024 (constantI S_ 32 129#32))) v)

/-- The z coordinates at every pixel, negatives wrapped. -/
def zsOf (v : Words) : Words :=
  select (cmpi .slt v (broadcastInDim S12x1024x1024 ![] bcast_S_S12x1024x1024 (constantI S_ 32 0#32)))
    (addi v (broadcastInDim S12x1024x1024 ![] bcast_S_S12x1024x1024 (constantI S_ 32 17#32))) v

/-- The four coordinates of the cell that each pixel goes to, or reads. -/
def places (n y x z : Words) : IVec S12x1024x1024x4 32 :=
  concatenate S12x1024x1024x4 3 [⟨S12x1024x1024x1, column n⟩, ⟨S12x1024x1024x1, column y⟩, ⟨S12x1024x1024x1, column x⟩,
    ⟨S12x1024x1024x1, column z⟩]
    concatenates_S12x1024x1024x1_S12x1024x1024x1_S12x1024x1024x1_S12x1024x1024x1_S12x1024x1024x4_d3

/-- The image numbers `0, …, 11`. -/
def numbers : IVec S12x1x1 32 := broadcastInDim S12x1x1 ![0] bcast_S12_S12x1x1_0 (iotaInDim S12 32 0)

/-- The coordinates `0, …, 1023` as floats. -/
def coords : Line := sitofp .f32 (iotaInDim S1024 32 0)

/-- The coordinates over eight. -/
def eighths : Line := Host.divf coords (broadcastInDim S1024 ![] bcast_S_S1024 (constant S_ .f32 0x41000000#32))

/-- The nearest cells. -/
def cells : IVec S1024 32 := fptosi 32 (Host.roundeven (eighths (F := F)))

/-- A line laid along y. -/
def alongY {α : Type} (v : S1024.Idx → α) : S1x1024x1.Idx → α := broadcastInDim S1x1024x1 ![1] bcast_S1024_S1x1024x1_1 v
/-- A line laid along x. -/
def alongX {α : Type} (v : S1024.Idx → α) : S1x1x1024.Idx → α := broadcastInDim S1x1x1024 ![2] bcast_S1024_S1x1x1024_2 v

/-- The pixels' bins. -/
def bins (u : Imgs) : Words :=
  fptosi 32 (minimumf (broadcastInDim S12x1024x1024 ![] bcast_S_S12x1024x1024 (sitofp .f32 (constantI S_ 32 15#32)))
    (maximumf (broadcastInDim S12x1024x1024 ![] bcast_S_S12x1024x1024 (sitofp .f32 (constantI S_ 32 0#32)))
      (Host.roundeven (mulf u (broadcastInDim S12x1024x1024 ![] bcast_S_S12x1024x1024 (constant S_ .f32 0x41700000#32))))))

/-- Each pixel's cell of the splat. -/
def target (u : Imgs) : IVec S12x1024x1024x4 32 :=
  places (imagesOf numbers) (ysOf (alongY (cells (F := F)))) (xsOf (alongX (cells (F := F)))) (zsOf (bins u))

/-- The updates added to their cells, from zero. -/
def scattered (p : IVec S12x1024x1024x4 32) (u : Imgs) : Grids :=
  Host.scatterAdd scatter_S12x129x129x17_S12x1024x1024x4_S12x1024x1024_n_0123_0123_3
    (broadcastInDim S12x129x129x17 ![] bcast_S_S12x129x129x17 (constant S_ .f32 0x00000000#32)) p u

/-- One for every pixel. -/
def ones : Imgs := broadcastInDim S12x1024x1024 ![] bcast_S_S12x1024x1024 (constant S_ .f32 0x3F800000#32)

/-- Tap `i` lies inside its filter. -/
theorem slices_tap (i : Fin 5) : S5.Slices ![i.val] S1 := by revert i; decide

/-- The five taps times five grids, summed in order. -/
def weighted (k : FVec F S5 .f32) (g : Fin 5 → Grids) : Grids :=
  let m := fun i : Fin 5 => mulf (broadcastInDim S12x129x129x17 ![] bcast_S_S12x129x129x17
    (shapeCast S_ (extractStridedSlice S1 ![i.val] k (slices_tap i)) shapeCasts_S1_S_)) (g i)
  addf (addf (addf (addf (m 0) (m 1)) (m 2)) (m 3)) (m 4)

/-- The padded grid shifted by `i` along y. -/
theorem slices_y (i : Fin 5) : S12x133x129x17.Slices ![0, i.val, 0, 0] S12x129x129x17 := by revert i; decide
/-- The padded grid shifted by `i` along x. -/
theorem slices_x (i : Fin 5) : S12x129x133x17.Slices ![0, 0, i.val, 0] S12x129x129x17 := by revert i; decide
/-- The padded grid shifted by `i` along z. -/
theorem slices_z (i : Fin 5) : S12x129x129x21.Slices ![0, 0, 0, i.val] S12x129x129x17 := by revert i; decide

/-- The blur along y. -/
def blurY (k : FVec F S5 .f32) (g : Grids) : Grids :=
  weighted k fun i => extractStridedSlice S12x129x129x17 ![0, i.val, 0, 0]
    (pad S12x133x129x17 ![0, 2, 0, 0] ![0, 2, 0, 0] ![0, 0, 0, 0] g (sitofp .f32 (constantI S_ 32 0#32))
      pads_S12x129x129x17_S12x133x129x17_000_220_000_000 h_S_) (slices_y i)

/-- The blur along x. -/
def blurX (k : FVec F S5 .f32) (g : Grids) : Grids :=
  weighted k fun i => extractStridedSlice S12x129x129x17 ![0, 0, i.val, 0]
    (pad S12x129x133x17 ![0, 0, 2, 0] ![0, 0, 2, 0] ![0, 0, 0, 0] g (sitofp .f32 (constantI S_ 32 0#32))
      pads_S12x129x129x17_S12x129x133x17_000_000_220_000 h_S_) (slices_x i)

/-- The blur along z. -/
def blurZ (k : FVec F S5 .f32) (g : Grids) : Grids :=
  weighted k fun i => extractStridedSlice S12x129x129x17 ![0, 0, 0, i.val]
    (pad S12x129x129x21 ![0, 0, 0, 2] ![0, 0, 0, 2] ![0, 0, 0, 0] g (sitofp .f32 (constantI S_ 32 0#32))
      pads_S12x129x129x17_S12x129x129x21_000_000_000_220 h_S_) (slices_z i)

/-- The blur along y, x and z. -/
def blur (ks kr : FVec F S5 .f32) (g : Grids) : Grids := blurZ kr (blurX ks (blurY ks g))

/-- The coordinates' whole parts. -/
def low : IVec S1024 32 := fptosi 32 (Host.floor (eighths (F := F)))

/-- The cells after those, clamped to the grid. -/
def high : IVec S1024 32 :=
  minsi (addi (low (F := F)) (broadcastInDim S1024 ![] bcast_S_S1024 (constantI S_ 32 1#32)))
    (broadcastInDim S1024 ![] bcast_S_S1024 (constantI S_ 32 128#32))

/-- The coordinates' fractions. -/
def frac : Line := subf eighths (sitofp .f32 (low (F := F)))

/-- One minus the fractions. -/
def cofrac : Line := subf (broadcastInDim S1024 ![] bcast_S_S1024 (constant S_ .f32 0x3F800000#32)) frac

/-- The pixels' levels. -/
def levels (u : Imgs) : Imgs :=
  minimumf (broadcastInDim S12x1024x1024 ![] bcast_S_S12x1024x1024 (id (constant S_ .f32 0x41700000#32)))
    (maximumf (broadcastInDim S12x1024x1024 ![] bcast_S_S12x1024x1024 (id (constant S_ .f32 0x00000000#32)))
      (mulf u (broadcastInDim S12x1024x1024 ![] bcast_S_S12x1024x1024 (constant S_ .f32 0x41700000#32))))

/-- The levels' whole parts. -/
def lowZ (u : Imgs) : Words := fptosi 32 (Host.floor (levels u))

/-- The bins after those, clamped to the grid. -/
def highZ (u : Imgs) : Words :=
  minsi (addi (lowZ u) (broadcastInDim S12x1024x1024 ![] bcast_S_S12x1024x1024 (constantI S_ 32 1#32)))
    (broadcastInDim S12x1024x1024 ![] bcast_S_S12x1024x1024 (constantI S_ 32 16#32))

/-- The levels' fractions. -/
def fracZ (u : Imgs) : Imgs := subf (levels u) (sitofp .f32 (lowZ u))

/-- One minus those. -/
def cofracZ (u : Imgs) : Imgs :=
  subf (broadcastInDim S12x1024x1024 ![] bcast_S_S12x1024x1024 (constant S_ .f32 0x3F800000#32)) (fracZ u)

/-- A corner's weight. -/
def weight (wy wx : Line) (wz : Imgs) : Imgs :=
  mulf (broadcastInDim S12x1024x1024 ![0, 1, 2] bcast_S1x1024x1024_S12x1024x1024_0_1_2
    (mulf (broadcastInDim S1x1024x1024 ![0, 1, 2] bcast_S1x1024x1_S1x1024x1024_0_1_2 (alongY wy))
      (broadcastInDim S1x1024x1024 ![0, 1, 2] bcast_S1x1x1024_S1x1024x1024_0_1_2 (alongX wx)))) wz

/-- A grid's values at one corner of every pixel's cube. -/
def gathered (g : Grids) (y x : IVec S1024 32) (z : Words) : Imgs :=
  Host.gather gather_S12x129x129x17_S12x1024x1024x4_S12x1024x1024_n_0123_n_n_0123_3_1111 g
    (places (imagesOf numbers) (ysOf (alongY y)) (xsOf (alongX x)) (zsOf z))

/-- A corner's weighted values. -/
def corner (g : Grids) (wy wx : Line) (wz : Imgs) (y x : IVec S1024 32) (z : Words) : Imgs :=
  mulf (weight wy wx wz) (gathered g y x z)

/-- The eight corners' sum. -/
def sliced (g : Grids) (u : Imgs) : Imgs :=
  addf (addf (addf (addf (addf (addf (addf (addf
    (broadcastInDim S12x1024x1024 ![] bcast_S_S12x1024x1024 (constant S_ .f32 0x00000000#32))
    (corner g cofrac cofrac (cofracZ u) (low (F := F)) (low (F := F)) (lowZ u)))
    (corner g cofrac cofrac (fracZ u) (low (F := F)) (low (F := F)) (highZ u)))
    (corner g cofrac frac (cofracZ u) (low (F := F)) (high (F := F)) (lowZ u)))
    (corner g cofrac frac (fracZ u) (low (F := F)) (high (F := F)) (highZ u)))
    (corner g frac cofrac (cofracZ u) (high (F := F)) (low (F := F)) (lowZ u)))
    (corner g frac cofrac (fracZ u) (high (F := F)) (low (F := F)) (highZ u)))
    (corner g frac frac (cofracZ u) (high (F := F)) (high (F := F)) (lowZ u)))
    (corner g frac frac (fracZ u) (high (F := F)) (high (F := F)) (highZ u))

/-- The images as twelve planes. -/
def imgs (a : FVec F S4x3x1024x1024 .f32) : Imgs := shapeCast S12x1024x1024 a shapeCasts_S4x3x1024x1024_S12x1024x1024

/-- The reference's result of its arguments. -/
def result (a : FVec F S4x3x1024x1024 .f32) (ks kr : FVec F S5 .f32) : Imgs :=
  Host.divf (sliced (blur ks kr (scattered (target (imgs a)) (imgs a))) (imgs a))
    (addf (sliced (blur ks kr (scattered (target (imgs a)) ones)) (imgs a))
      (broadcastInDim S12x1024x1024 ![] bcast_S_S12x1024x1024 (constant S_ .f32 0x322BCC77#32)))

/-! ## The run's terms are these -/

variable (V0 : Valuation τ sig (Elt F))

/-- The image's blurred grid. -/
theorem val_grid : res_main_v230 V0 = blur (V0 (Proc.devRef .tc main_arg2)) (V0 (Proc.devRef .tc main_arg3))
    (scattered (target (imgs (V0 (Proc.devRef .tc main_arg0)))) (imgs (V0 (Proc.devRef .tc main_arg0)))) := rfl

/-- The counts' blurred grid. -/
theorem wt_grid : res_main_v260 V0 = blur (V0 (Proc.devRef .tc main_arg2)) (V0 (Proc.devRef .tc main_arg3))
    (scattered (target (imgs (V0 (Proc.devRef .tc main_arg0)))) ones) := rfl

/-- The sliced image grid. -/
theorem val_slice : res_main_v858 V0 = sliced (res_main_v230 V0) (imgs (V0 (Proc.devRef .tc main_arg0))) := rfl

/-- The sliced counts grid. -/
theorem wt_slice : res_main_v891 V0 = sliced (res_main_v260 V0) (imgs (V0 (Proc.devRef .tc main_arg0))) := rfl

end Cert.ReferenceIdeal.Form

end
-- ==== Proof.ReferenceCells.lean ====
module

public import proofs.«01_k».proof.Proof.ReferenceForm
public import proofs.«01_k».proof.Proof.Scalars
public import Idealize.ShloMosaic.Lib.Routing.OpsPair

/-! The reference's scatter and gather read at an index: an update lands where its four words say, a gather reads the
    cell that its four words name, when those words are in range. -/

@[expose] public section

set_option maxRecDepth 16384

noncomputable section

namespace Cert.ReferenceIdeal.Form

open Cert.ReferenceIdeal Cert.ReferenceIdeal.Gen Idealize.ShloMosaic Idealize.ShloMosaic.TcCoe Idealize.SL.Sem
open scoped BigOperators

variable (p : IVec S12x1024x1024x4 32) (n : Fin 12) (i j : Fin 1024)

local notation "sdims" => scatter_S12x129x129x17_S12x1024x1024x4_S12x1024x1024_n_0123_0123_3
local notation "gdims" => gather_S12x129x129x17_S12x1024x1024x4_S12x1024x1024_n_0123_n_n_0123_3_1111

/-- The scatter's start on axis `a` is the pixel's word `a`. -/
theorem scatter_start (a : Fin 4) : (sdims).start (ix3 n i j) p a = (p (ix4 n i j a)).toInt := by
  have h : a ∈ (sdims).scatterDimsToOperandDims := by revert a; decide
  unfold ScatterDims.start
  rw [dif_pos h]
  congr 2
  funext b
  apply Fin.ext
  fin_cases a <;> fin_cases b <;> rfl

/-- A scatter of scalars has no window. -/
theorem scatter_window (a : Fin 4) : (sdims).window (ix3 n i j) a = 0 := by
  fin_cases a <;> rfl

/-- The gather's start on axis `a` is the pixel's word `a`, clamped. -/
theorem gather_start (a : Fin 4) :
    (gdims).start (ix3 n i j) p a = min (p (ix4 n i j a)).toInt.toNat (S12x129x129x17.size a - 1) := by
  have h : a ∈ (gdims).startIndexMap := by revert a; decide
  unfold GatherDims.start
  rw [dif_pos h]
  congr 1
  · congr 3
    funext b
    apply Fin.ext
    fin_cases a <;> fin_cases b <;> rfl
  · fin_cases a <;> rfl

/-- The update of pixel `(n, i, j)` lands at a cell exactly when its four words are the cell's coordinates. -/
theorem lands_iff (m : Fin 12) (y x : Fin 129) (z : Fin 17) :
    (sdims).resultIdx? (ix3 n i j) p = some (ix4 m y x z) ↔
      (p (ix4 n i j 0)).toInt = m.val ∧ (p (ix4 n i j 1)).toInt = y.val ∧ (p (ix4 n i j 2)).toInt = x.val
        ∧ (p (ix4 n i j 3)).toInt = z.val := by
  rw [Routing.resultIdx?_eq_some]
  have h : ∀ a : Fin 4, (sdims).start (ix3 n i j) p a + ((sdims).window (ix3 n i j) a : Int) = (p (ix4 n i j a)).toInt := fun a => by
    rw [scatter_start, scatter_window, Nat.cast_zero, add_zero]
  constructor
  · intro q
    exact ⟨(h 0).symm.trans (q 0), (h 1).symm.trans (q 1), (h 2).symm.trans (q 2), (h 3).symm.trans (q 3)⟩
  · rintro ⟨h0, h1, h2, h3⟩ a
    rw [h a]
    match a with
    | ⟨0, _⟩ => exact h0
    | ⟨1, _⟩ => exact h1
    | ⟨2, _⟩ => exact h2
    | ⟨3, _⟩ => exact h3

/-- A gather reads the cell that the pixel's four words name. -/
theorem gather_read {α : Type} (g : S12x129x129x17.Idx → α) (m : Fin 12) (y x : Fin 129) (z : Fin 17)
    (h0 : (p (ix4 n i j 0)).toInt = m.val) (h1 : (p (ix4 n i j 1)).toInt = y.val) (h2 : (p (ix4 n i j 2)).toInt = x.val)
    (h3 : (p (ix4 n i j 3)).toInt = z.val) : Host.gather (gdims) g p (ix3 n i j) = g (ix4 m y x z) := by
  unfold Host.gather
  congr 1
  funext a
  apply Fin.ext
  have hs := gather_start p n i j a
  have hb : (gdims).batchCoord (ix3 n i j) a = 0 := by clear hs; fin_cases a <;> rfl
  have ho : (gdims).offCoord (ix3 n i j) a = 0 := by clear hs hb; fin_cases a <;> rfl
  show (gdims).start (ix3 n i j) p a + (gdims).batchCoord (ix3 n i j) a + (gdims).offCoord (ix3 n i j) a = _
  rw [hs, hb, ho, Nat.add_zero]
  match a with
  | ⟨0, _⟩ =>
    show min (p (ix4 n i j 0)).toInt.toNat (12 - 1) = m.val
    rw [h0]; omega
  | ⟨1, _⟩ =>
    show min (p (ix4 n i j 1)).toInt.toNat (129 - 1) = y.val
    rw [h1]; omega
  | ⟨2, _⟩ =>
    show min (p (ix4 n i j 2)).toInt.toNat (129 - 1) = x.val
    rw [h2]; omega
  | ⟨3, _⟩ =>
    show min (p (ix4 n i j 3)).toInt.toNat (17 - 1) = z.val
    rw [h3]; omega

end Cert.ReferenceIdeal.Form

end
-- ==== Proof.ReferenceWords.lean ====
module

public import proofs.«01_k».proof.Proof.ReferenceCells

/-! The reference's words and fractions at an index: nearest cells, whole parts and their successors, bins, fractions,
    and the four words of a pixel's cell. -/

@[expose] public section

set_option maxRecDepth 16384

noncomputable section

namespace Cert.ReferenceIdeal.Form

open Cert.ReferenceIdeal Cert.ReferenceIdeal.Gen Idealize.ShloMosaic Idealize.ShloMosaic.TcCoe Idealize.SL.Sem Bilateral

variable (u : FVec Ideal S12x1024x1024 .f32) (n : Fin 12) (i j : Fin 1024)

/-- A coordinate over eight is that real. -/
theorem eighths_apply : (eighths (F := Ideal)) (ix1 i) = (((i.val : ℝ) / 8 : ℝ) : EReal) := by
  pointwise [eighths, coords]
  rw [sitofp_nat _ (by omega), ofBits_eight, div_real _ _ (by norm_num)]

/-- The nearest cell, as a word. -/
theorem cells_apply : (cells (F := Ideal)) (ix1 i) = BitVec.ofNat 32 (cell i) := by
  pointwise [cells]
  have h := cell_le i i.isLt
  rw [eighths_apply, Ideal.liftRound_coe, roundHalfEven_eighth, Int.cast_natCast]
  exact fptosi_nat _ (by omega)

/-- A nonnegative real's whole part, as a word. -/
theorem fptosi_floor (r : ℝ) (h0 : 0 ≤ r) (h : ⌊r⌋₊ < 2 ^ 31) :
    Ideal.fptosi 32 (Ideal.liftRound Int.floor ((r : ℝ) : EReal)) = BitVec.ofNat 32 ⌊r⌋₊ := by
  rw [Ideal.liftRound_coe, ← Int.natCast_floor_eq_floor h0, Int.cast_natCast, fptosi_nat _ h]

/-- A word's successor, clamped above it, is the successor. -/
theorem succ_word (a b : ℕ) (h : a + 1 ≤ b) (hb : b < 2 ^ 31) :
    IntOp.minsi (IntOp.addi (BitVec.ofNat 32 a) 1#32) (BitVec.ofNat 32 b) = BitVec.ofNat 32 (a + 1) := by
  have e : IntOp.addi (BitVec.ofNat 32 a) 1#32 = BitVec.ofNat 32 (a + 1) := (BitVec.ofNat_add a 1).symm
  rw [e]
  unfold IntOp.minsi
  have hle : (BitVec.ofNat 32 (a + 1)).toInt ≤ (BitVec.ofNat 32 b).toInt := by
    rw [toInt_ofNat _ (by omega), toInt_ofNat _ hb]; omega
  split_ifs with hs
  · rfl
  · simp only [BitVec.slt_iff_toInt_lt, BitVec.sle_iff_toInt_le] at hs
    exact BitVec.eq_of_toInt_eq (by omega)

/-- The lower cell of pixel `i`, as a word. -/
theorem low_apply : (low (F := Ideal)) (ix1 i) = BitVec.ofNat 32 (i / 8) := by
  pointwise [low]
  rw [eighths_apply]
  have h := fptosi_floor ((i.val : ℝ) / 8) (by positivity) (by rw [floor_eighth]; omega)
  rwa [floor_eighth] at h

/-- The upper cell of pixel `i`, as a word. -/
theorem high_apply : (high (F := Ideal)) (ix1 i) = BitVec.ofNat 32 (i / 8 + 1) := by
  pointwise [high]
  rw [low_apply]
  exact succ_word _ 128 (by omega) (by norm_num)

/-- How far pixel `i` lies above its lower cell. -/
theorem frac_apply : (frac (F := Ideal)) (ix1 i) = (((i.val : ℝ) / 8 - (i.val / 8 : ℕ) : ℝ) : EReal) := by
  pointwise [frac]
  rw [eighths_apply, low_apply, sitofp_nat _ (by omega), EReal.coe_sub]

/-- One minus that. -/
theorem cofrac_apply : (cofrac (F := Ideal)) (ix1 i) = ((1 - ((i.val : ℝ) / 8 - (i.val / 8 : ℕ)) : ℝ) : EReal) := by
  pointwise [cofrac]
  rw [frac_apply, EReal.coe_sub 1, EReal.coe_one]

/-- A pixel's bin, as a word. -/
theorem bins_apply : (bins (F := Ideal) u) (ix3 n i j) = BitVec.ofNat 32 (bin (u (ix3 n i j))) := by
  pointwise [bins]
  have h0 : (FloatOps.sitofp FTy.f32 0#32 : Ideal .f32) = 0 := by
    have := sitofp_nat 0 (by norm_num)
    simpa using this
  have h15 : (FloatOps.sitofp FTy.f32 15#32 : Ideal .f32) = ((15 : ℝ) : EReal) := by
    have := sitofp_nat 15 (by norm_num)
    exact_mod_cast this
  have hb := bin_le (u (ix3 n i j))
  rw [h0, h15, ofBits_fifteen, bin_eq]
  exact fptosi_nat _ (by omega)

/-- A pixel's level is that real. -/
theorem levels_apply : (levels (F := Ideal) u) (ix3 n i j) = ((level (u (ix3 n i j)) : ℝ) : EReal) := by
  pointwise [levels]
  show min (Ideal.ofBits .f32 0x41700000#32) (max (Ideal.ofBits .f32 0x00000000#32) _) = _
  rw [ofBits_fifteen, Ideal.ofBits_zero_f32, level_eq]

/-- The lower bin of a pixel's level, as a word. -/
theorem lowZ_apply : (lowZ (F := Ideal) u) (ix3 n i j) = BitVec.ofNat 32 ⌊level (u (ix3 n i j))⌋₊ := by
  pointwise [lowZ]
  have := floor_level_le (u (ix3 n i j))
  rw [levels_apply]
  exact fptosi_floor _ (level_nonneg _) (by omega)

/-- The upper bin of a pixel's level, as a word. -/
theorem highZ_apply : (highZ (F := Ideal) u) (ix3 n i j) = BitVec.ofNat 32 (⌊level (u (ix3 n i j))⌋₊ + 1) := by
  pointwise [highZ]
  have := floor_level_le (u (ix3 n i j))
  rw [lowZ_apply]
  exact succ_word _ 16 (by omega) (by norm_num)

/-- How far a pixel's level lies above its lower bin. -/
theorem fracZ_apply : (fracZ (F := Ideal) u) (ix3 n i j)
    = ((level (u (ix3 n i j)) - ⌊level (u (ix3 n i j))⌋₊ : ℝ) : EReal) := by
  pointwise [fracZ]
  have := floor_level_le (u (ix3 n i j))
  rw [levels_apply, lowZ_apply, sitofp_nat _ (by omega), EReal.coe_sub]

/-- One minus that. -/
theorem cofracZ_apply : (cofracZ (F := Ideal) u) (ix3 n i j)
    = ((1 - (level (u (ix3 n i j)) - ⌊level (u (ix3 n i j))⌋₊) : ℝ) : EReal) := by
  pointwise [cofracZ]
  rw [fracZ_apply, EReal.coe_sub 1, EReal.coe_one]

/-- A word that is not negative is not wrapped. -/
theorem wrap_nat (a : ℕ) (h : a < 2 ^ 31) (b : BitVec 32) :
    Scalar.select (IntOp.cmpi .slt (BitVec.ofNat 32 a) 0#32) b (BitVec.ofNat 32 a) = BitVec.ofNat 32 a := by
  apply Routing.wrap_of_lt
  rw [BitVec.toNat_ofNat]
  omega

/-- The four words of a pixel's cell, from the words of its coordinates. -/
theorem places_words (y x : IVec S1024 32) (z : IVec S12x1024x1024 32) (b c d : ℕ)
    (hy : y (ix1 i) = BitVec.ofNat 32 b) (hx : x (ix1 j) = BitVec.ofNat 32 c) (hz : z (ix3 n i j) = BitVec.ofNat 32 d)
    (hb : b < 2 ^ 31) (hc : c < 2 ^ 31) (hd : d < 2 ^ 31) :
    let p := places (imagesOf numbers) (ysOf (alongY y)) (xsOf (alongX x)) (zsOf z)
    (p (ix4 n i j 0)).toInt = n.val ∧ (p (ix4 n i j 1)).toInt = b ∧ (p (ix4 n i j 2)).toInt = c ∧ (p (ix4 n i j 3)).toInt = d := by
  refine ⟨?_, ?_, ?_, ?_⟩
  · pointwise [places, column, imagesOf, numbers]
    rw [wrap_nat _ (by omega), toInt_ofNat _ (by omega)]
  · pointwise [places, column, ysOf, alongY]
    rw [hy, wrap_nat _ hb, toInt_ofNat _ hb]
  · pointwise [places, column, xsOf, alongX]
    rw [hx, wrap_nat _ hc, toInt_ofNat _ hc]
  · pointwise [places, column, zsOf]
    rw [hz, wrap_nat _ hd, toInt_ofNat _ hd]

end Cert.ReferenceIdeal.Form

end
-- ==== Proof.ReferenceValue.lean ====
module

public import proofs.«01_k».proof.Proof.ReferenceWords

/-! What the reference computes: its scatter is the splat, its blur the five-tap sums, its eight corners the trilinear
    interpolation, so its result is the filtered image. -/

@[expose] public section

set_option maxRecDepth 16384

noncomputable section

namespace Cert.ReferenceIdeal.Form

open Cert.ReferenceIdeal Cert.ReferenceIdeal.Gen Idealize.ShloMosaic Idealize.ShloMosaic.TcCoe Idealize.SL.Sem Bilateral
open scoped BigOperators

variable (u w : FVec Ideal S12x1024x1024 .f32) (n : Fin 12) (i j : Fin 1024) (y x : Fin 129) (z : Fin 17)

/-- A pixel's update lands at a cell of its own image exactly when it is the pixel's nearest cell and bin. -/
theorem target_iff (m : Fin 12) :
    scatter_S12x129x129x17_S12x1024x1024x4_S12x1024x1024_n_0123_0123_3.resultIdx? (ix3 m i j) (target u) = some (ix4 n y x z)
      ↔ m = n ∧ (cell i = y ∧ cell j = x) ∧ bin (u (ix3 m i j)) = z := by
  have hi := cell_le i i.isLt
  have hj := cell_le j j.isLt
  have hb := bin_le (u (ix3 m i j))
  obtain ⟨h0, h1, h2, h3⟩ := places_words m i j (cells (F := Ideal)) (cells (F := Ideal)) (bins u) _ _ _ (cells_apply i)
    (cells_apply j) (bins_apply u m i j) (by omega) (by omega) (by omega)
  rw [lands_iff, target, h0, h1, h2, h3, Fin.ext_iff]
  simp only [Nat.cast_inj, and_assoc]

/-- The scatter of `w` is its splat, bin by bin. -/
theorem scattered_apply : scattered (target u) w (ix4 n y x z)
    = grid (fun i j => bin (u (ix3 n i j))) (fun i j => w (ix3 n i j)) z y x := by
  unfold scattered Host.scatterAdd
  rw [Ideal.hostScatterAdd_def]
  unfold Ideal.hostScatterAdd
  rw [Finset.sum_filter, sum_idx3]
  simp only [target_iff]
  rw [Finset.sum_eq_single n]
  · pointwise []
    unfold grid splat
    refine Finset.sum_congr rfl fun i _ => Finset.sum_congr rfl fun j _ => ?_
    simp only [true_and, ite_and]
  · intro m _ hm
    simp only [hm, false_and, if_false, Finset.sum_const_zero]
  · simp

/-! ## Blur -/

/-- The zero word as a float is zero. -/
theorem sitofp_zero_word : (FloatOps.sitofp FTy.f32 0#32 : Ideal .f32) = 0 := by
  have := sitofp_nat 0 (by norm_num)
  simpa using this

/-- The taps of a filter. -/
def tapsOf (k : FVec Ideal S5 .f32) (a : Fin 5) : EReal := k (ix1 a)

/-- The padded row read at tap `a`: the row shifted by `a - 2`, zero beyond its ends. -/
theorem padded_taps (m : ℕ) (k : Fin 5 → EReal) (g : ℕ → EReal) (q : ℕ) (hq : q < m) :
    k 0 * (if 2 ≤ q ∧ q - 2 < m then g (q - 2) else 0) + k 1 * (if 2 ≤ 1 + q ∧ 1 + q - 2 < m then g (1 + q - 2) else 0)
      + k 2 * g q + k 3 * (if 2 ≤ 3 + q ∧ 3 + q - 2 < m then g (3 + q - 2) else 0)
      + k 4 * (if 2 ≤ 4 + q ∧ 4 + q - 2 < m then g (4 + q - 2) else 0) = taps5 m k g q := by
  unfold taps5
  have e0 : (if 2 ≤ q ∧ q - 2 < m then g (q - 2) else 0) = if q < 2 then 0 else g (q - 2) := by
    split_ifs <;> first | rfl | omega
  have e1 : (if 2 ≤ 1 + q ∧ 1 + q - 2 < m then g (1 + q - 2) else 0) = if q < 1 then 0 else g (q - 1) := by
    rw [show 1 + q - 2 = q - 1 by omega]
    split_ifs <;> first | rfl | omega
  have e3 : (if 2 ≤ 3 + q ∧ 3 + q - 2 < m then g (3 + q - 2) else 0) = if q + 1 < m then g (q + 1) else 0 := by
    rw [show 3 + q - 2 = q + 1 by omega]
    split_ifs <;> first | rfl | omega
  have e4 : (if 2 ≤ 4 + q ∧ 4 + q - 2 < m then g (4 + q - 2) else 0) = if q + 2 < m then g (q + 2) else 0 := by
    rw [show 4 + q - 2 = q + 2 by omega]
    split_ifs <;> first | rfl | omega
  rw [e0, e1, e3, e4]

variable (k : FVec Ideal S5 .f32) (g : FVec Ideal S12x129x129x17 .f32) (G : ℕ → ℕ → ℕ → EReal)

/-- The blur along y of a grid that holds `G`. -/
theorem blurY_apply (h : ∀ (z : Fin 17) (y x : Fin 129), g (ix4 n y x z) = G z y x) :
    blurY k g (ix4 n y x z) = taps5 129 (tapsOf k) (fun y => G z y x) y := by
  pointwise [blurY, weighted]
  simp only [h, sitofp_zero_word, dite_eq_ite]
  exact padded_taps 129 (tapsOf k) (fun y => G z y x) y y.isLt

/-- The blur along x of a grid that holds `G`. -/
theorem blurX_apply (h : ∀ (z : Fin 17) (y x : Fin 129), g (ix4 n y x z) = G z y x) :
    blurX k g (ix4 n y x z) = taps5 129 (tapsOf k) (fun x => G z y x) x := by
  pointwise [blurX, weighted]
  simp only [h, sitofp_zero_word, dite_eq_ite]
  exact padded_taps 129 (tapsOf k) (fun x => G z y x) x x.isLt

/-- The blur along z of a grid that holds `G`. -/
theorem blurZ_apply (h : ∀ (z : Fin 17) (y x : Fin 129), g (ix4 n y x z) = G z y x) :
    blurZ k g (ix4 n y x z) = taps5 17 (tapsOf k) (fun z => G z y x) z := by
  pointwise [blurZ, weighted]
  simp only [h, sitofp_zero_word, dite_eq_ite]
  exact padded_taps 17 (tapsOf k) (fun z => G z y x) z z.isLt

/-- The blur along y, x and z of a grid that holds `G`. -/
theorem blur_apply (ks kr : FVec Ideal S5 .f32) (h : ∀ (z : Fin 17) (y x : Fin 129), g (ix4 n y x z) = G z y x) :
    blur ks kr g (ix4 n y x z) = Bilateral.blur (tapsOf ks) (tapsOf kr) G z y x :=
  blurZ_apply n y x z kr _ (fun z y x => taps5 129 (tapsOf ks) (fun x => taps5 129 (tapsOf ks) (fun y => G z y x) y) x) fun z y x =>
    blurX_apply n y x z ks _ (fun z y x => taps5 129 (tapsOf ks) (fun y => G z y x) y) fun z y x =>
      blurY_apply n y x z ks g G h

/-! ## Slice -/

/-- One corner: its weight times the grid at its cell. -/
theorem corner_apply (h : ∀ (z : Fin 17) (y x : Fin 129), g (ix4 n y x z) = G z y x)
    (wy wx : FVec Ideal S1024 .f32) (wz : FVec Ideal S12x1024x1024 .f32) (py px : IVec S1024 32) (pz : IVec S12x1024x1024 32)
    (b c d : ℕ) (hy : py (ix1 i) = BitVec.ofNat 32 b) (hx : px (ix1 j) = BitVec.ofNat 32 c)
    (hz : pz (ix3 n i j) = BitVec.ofNat 32 d) (hb : b < 129) (hc : c < 129) (hd : d < 17) :
    corner g wy wx wz py px pz (ix3 n i j) = wy (ix1 i) * wx (ix1 j) * wz (ix3 n i j) * G d b c := by
  obtain ⟨h0, h1, h2, h3⟩ := places_words n i j py px pz b c d hy hx hz (by omega) (by omega) (by omega)
  have hg := gather_read _ n i j g n ⟨b, hb⟩ ⟨c, hc⟩ ⟨d, hd⟩ h0 h1 h2 h3
  pointwise [corner, weight, alongY, alongX]
  rw [gathered, hg, h]

/-- The eight corners' sum of a grid that holds `G` is the interpolation of `G`. -/
theorem sliced_apply (h : ∀ (z : Fin 17) (y x : Fin 129), g (ix4 n y x z) = G z y x) :
    sliced g u (ix3 n i j) = slice G (level (u (ix3 n i j))) i j := by
  have hl := floor_level_le (u (ix3 n i j))
  have e := fun wy wx wz py px pz b c d hy hx hz hb hc hd =>
    corner_apply n i j g G h wy wx wz py px pz b c d hy hx hz hb hc hd
  pointwise [sliced]
  rw [e cofrac cofrac (cofracZ u) low low (lowZ u) _ _ _ (low_apply i) (low_apply j) (lowZ_apply u n i j) (by omega) (by omega) (by omega),
    e cofrac cofrac (fracZ u) low low (highZ u) _ _ _ (low_apply i) (low_apply j) (highZ_apply u n i j) (by omega) (by omega) (by omega),
    e cofrac frac (cofracZ u) low high (lowZ u) _ _ _ (low_apply i) (high_apply j) (lowZ_apply u n i j) (by omega) (by omega) (by omega),
    e cofrac frac (fracZ u) low high (highZ u) _ _ _ (low_apply i) (high_apply j) (highZ_apply u n i j) (by omega) (by omega) (by omega),
    e frac cofrac (cofracZ u) high low (lowZ u) _ _ _ (high_apply i) (low_apply j) (lowZ_apply u n i j) (by omega) (by omega) (by omega),
    e frac cofrac (fracZ u) high low (highZ u) _ _ _ (high_apply i) (low_apply j) (highZ_apply u n i j) (by omega) (by omega) (by omega),
    e frac frac (cofracZ u) high high (lowZ u) _ _ _ (high_apply i) (high_apply j) (lowZ_apply u n i j) (by omega) (by omega) (by omega),
    e frac frac (fracZ u) high high (highZ u) _ _ _ (high_apply i) (high_apply j) (highZ_apply u n i j) (by omega) (by omega) (by omega)]
  simp only [frac_apply, cofrac_apply, fracZ_apply, cofracZ_apply, zero_add]
  have hf := fun q : ℕ => (floor_eighth q) ▸ Nat.floor_le (a := (q : ℝ) / 8) (by positivity)
  have hs := fun q : ℕ => (floor_eighth q) ▸ (Nat.lt_floor_add_one ((q : ℝ) / 8)).le
  have hzf := Nat.floor_le (level_nonneg (u (ix3 n i j)))
  have hzs := (Nat.lt_floor_add_one (level (u (ix3 n i j)))).le
  have hc := lerp_corners (ty := (i.val : ℝ) / 8 - (i.val / 8 : ℕ)) (tx := (j.val : ℝ) / 8 - (j.val / 8 : ℕ))
    (tz := level (u (ix3 n i j)) - ⌊level (u (ix3 n i j))⌋₊)
    (by have := hf j; linarith) (by have := hs j; linarith) (by linarith) (by linarith)
    (fun a b c => G (⌊level (u (ix3 n i j))⌋₊ + c.val) (i / 8 + a.val) (j / 8 + b.val))
  exact hc.symm

/-- The reference's result is the filtered image. -/
theorem result_apply (a : FVec Ideal S4x3x1024x1024 .f32) (ks kr : FVec Ideal S5 .f32) :
    result a ks kr (ix3 n i j) = filtered (tapsOf ks) (tapsOf kr) (fun i j => imgs a (ix3 n i j)) i j := by
  have hv := sliced_apply (imgs a) n i j (blur ks kr (scattered (target (imgs a)) (imgs a))) _ fun z y x =>
    blur_apply n y x z _ _ ks kr fun z y x => scattered_apply (imgs a) (imgs a) n y x z
  have hw := sliced_apply (imgs a) n i j (blur ks kr (scattered (target (imgs a)) ones)) _ fun z y x =>
    blur_apply n y x z _ _ ks kr fun z y x => scattered_apply (imgs a) ones n y x z
  have h1 : ∀ i j : Fin 1024, (ones (F := Ideal)) (ix3 n i j) = 1 := fun i j => by pointwise [ones]
  simp only [h1] at hw
  unfold result
  pointwise []
  rw [hv, hw]
  rfl

end Cert.ReferenceIdeal.Form

end
-- ==== Proof.Equation.lean ====
module

public import proofs.«01_k».proof.Defs
public import proofs.«01_k».proof.Proof.KernelArray
public import proofs.«01_k».proof.Proof.ReferenceValue

/-! The kernel and the reference end with the same array: every image filtered. -/

@[expose] public section

set_option maxRecDepth 16384

noncomputable section

namespace Cert.Proof

open Idealize.ShloMosaic Idealize.ShloMosaic.TcCoe Idealize.SL.Sem

/-- The reference's result term is every image filtered. -/
theorem reference_eq (V0 : Valuation Cert.ReferenceIdeal.τ Cert.ReferenceIdeal.sig (Elt Ideal)) :
    Host.divf (Cert.ReferenceIdeal.Value.res_main_v858 V0) (addf (Cert.ReferenceIdeal.Value.res_main_v891 V0)
        (broadcastInDim Cert.ReferenceIdeal.S12x1024x1024 ![] Cert.ReferenceIdeal.Gen.bcast_S_S12x1024x1024
          (constant Cert.ReferenceIdeal.S_ .f32 0x322BCC77#32)))
      = Cert.KernelIdeal.Form.filteredAll (V0 (Proc.devRef .tc Cert.ReferenceIdeal.main_arg0))
          (V0 (Proc.devRef .tc Cert.ReferenceIdeal.main_arg2)) (V0 (Proc.devRef .tc Cert.ReferenceIdeal.main_arg3)) := by
  rw [Cert.ReferenceIdeal.Form.val_slice, Cert.ReferenceIdeal.Form.wt_slice, Cert.ReferenceIdeal.Form.val_grid,
    Cert.ReferenceIdeal.Form.wt_grid]
  funext y
  obtain ⟨n, i, j, rfl⟩ : ∃ n i j, y = ix3 n i j := ⟨y 0, y 1, y 2, by funext a; fin_cases a <;> rfl⟩
  exact Cert.ReferenceIdeal.Form.result_apply n i j _ _ _

/-- The idealized kernel's result array equals the idealized reference's whenever the arguments agree. -/
theorem algebraic : Cert.algebraic_KernelIdeal_ReferenceIdeal := by
  intro m ρ m' ρ' _ hagree
  refine ⟨fun c => Cert.KernelIdeal.Form.filteredAll (m ((c.tc : Thread Cert.KernelIdeal.nD Cert.KernelIdeal.τ).loc Cert.KernelIdeal.main_arg0))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Form.run_filtered m ρ, ?_⟩
  refine (θ_run Cert.ReferenceIdeal.defs _ _).mono (fun _ h c => ⟨(h c).1.trans ?_, (h c).2⟩)
    (Cert.ReferenceIdeal.Value.run (F := Ideal) m' ρ')
  obtain ⟨h0, -, h2, h3, -, -⟩ := hagree c
  rw [reference_eq]
  show Cert.KernelIdeal.Form.filteredAll (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
  rw [h0, h2, h3]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs to its end and leaves its arguments as they were. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
